-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 256]⟩ (Layout.meshBlock [2, 2, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![256, 1024]⟩ (Layout.meshBlock [2, 2, 4] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![256, 1024]⟩ (Layout.meshBlock [2, 2, 4] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩
abbrev S64x256 : Shape := ⟨2, ![64, 256]⟩
abbrev S1024x256 : Shape := ⟨2, ![1024, 256]⟩
abbrev S1024x128 : Shape := ⟨2, ![1024, 128]⟩
abbrev S4x64x1024 : Shape := ⟨3, ![4, 64, 1024]⟩
abbrev S512x256 : Shape := ⟨2, ![512, 256]⟩
abbrev S3 : Shape := ⟨1, ![3]⟩
abbrev S6 : Shape := ⟨1, ![6]⟩
abbrev S1x256x1024 : Shape := ⟨3, ![1, 256, 1024]⟩
abbrev S256x1024 : Shape := ⟨2, ![256, 1024]⟩
abbrev S512x1024 : Shape := ⟨2, ![512, 1024]⟩
abbrev S64x512 : Shape := ⟨2, ![64, 512]⟩
abbrev S1x64x512 : Shape := ⟨3, ![1, 64, 512]⟩
abbrev S1x64x256 : Shape := ⟨3, ![1, 64, 256]⟩
abbrev S1 : Shape := ⟨1, ![1]⟩
abbrev S1x64x1024 : Shape := ⟨3, ![1, 64, 1024]⟩
abbrev S512x128 : Shape := ⟨2, ![512, 128]⟩
abbrev S512x32 : Shape := ⟨2, ![512, 32]⟩
abbrev S256x32 : Shape := ⟨2, ![256, 32]⟩
abbrev S256x256 : Shape := ⟨2, ![256, 256]⟩
abbrev S256x64 : Shape := ⟨2, ![256, 64]⟩
abbrev S256 : Shape := ⟨1, ![256]⟩
abbrev S256x1 : Shape := ⟨2, ![256, 1]⟩

abbrev nBuf : Space → Nat
  | .hbm => 69
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S1024x64, .f32⟩
  | .hbm, ⟨2, _⟩ => ⟨S64x1024, .f32⟩
  | .hbm, ⟨3, _⟩ => ⟨S64x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S64x256, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S64x256, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1024x256, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1024x128, .f32⟩
  | .hbm, ⟨60, _⟩ => ⟨S2x256x1024, .bf16⟩
  | .hbm, ⟨61, _⟩ => ⟨S1024x64, .bf16⟩
  | .hbm, ⟨62, _⟩ => ⟨S64x256, .bf16⟩
  | .hbm, ⟨63, _⟩ => ⟨S64x256, .bf16⟩
  | .hbm, ⟨64, _⟩ => ⟨S1024x256, .bf16⟩
  | .hbm, ⟨65, _⟩ => ⟨S1024x128, .bf16⟩
  | .hbm, ⟨66, _⟩ => ⟨S1024x32, .bf16⟩
  | .hbm, ⟨67, _⟩ => ⟨S1024x1024, .bf16⟩
  | .hbm, ⟨68, _⟩ => ⟨S2x256x1024, .f32⟩
  | .local _ .vmem, ⟨0, _⟩ => ⟨S2x256x1024, .bf16⟩
  | .local _ .vmem, ⟨1, _⟩ => ⟨S1024x64, .bf16⟩
  | .local _ .vmem, ⟨2, _⟩ => ⟨S64x256, .bf16⟩
  | .local _ .vmem, ⟨3, _⟩ => ⟨S64x256, .bf16⟩
  | .local _ .vmem, ⟨4, _⟩ => ⟨S1024x256, .bf16⟩
  | .local _ .vmem, ⟨5, _⟩ => ⟨S1024x128, .bf16⟩
  | .local _ .vmem, ⟨6, _⟩ => ⟨S1024x32, .bf16⟩
  | .local _ .vmem, ⟨7, _⟩ => ⟨S1024x1024, .bf16⟩
  | .local _ .vmem, ⟨8, _⟩ => ⟨S2x256x1024, .f32⟩
  | .local _ .vmem, ⟨9, _⟩ => ⟨S4x64x1024, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_c_5 : Ref sig .tc := ⟨.hbm, 26, rfl⟩
abbrev main_v13 : Ref sig .tc := ⟨.hbm, 27, rfl⟩
abbrev main_c_6 : Ref sig .tc := ⟨.hbm, 28, rfl⟩
abbrev main_v14 : Ref sig .tc := ⟨.hbm, 29, rfl⟩
abbrev main_v15 : Ref sig .tc := ⟨.hbm, 30, rfl⟩
abbrev main_c_7 : Ref sig .tc := ⟨.hbm, 31, rfl⟩
abbrev main_v16 : Ref sig .tc := ⟨.hbm, 32, rfl⟩
abbrev main_c_8 : Ref sig .tc := ⟨.hbm, 33, rfl⟩
abbrev main_v17 : Ref sig .tc := ⟨.hbm, 34, rfl⟩
abbrev main_c_9 : Ref sig .tc := ⟨.hbm, 35, rfl⟩
abbrev main_v18 : Ref sig .tc := ⟨.hbm, 36, rfl⟩
abbrev main_c_10 : Ref sig .tc := ⟨.hbm, 37, rfl⟩
abbrev main_v19 : Ref sig .tc := ⟨.hbm, 38, rfl⟩
abbrev main_v20 : Ref sig .tc := ⟨.hbm, 39, rfl⟩
abbrev main_c_11 : Ref sig .tc := ⟨.hbm, 40, rfl⟩
abbrev main_v21 : Ref sig .tc := ⟨.hbm, 41, rfl⟩
abbrev main_c_12 : Ref sig .tc := ⟨.hbm, 42, rfl⟩
abbrev main_v22 : Ref sig .tc := ⟨.hbm, 43, rfl⟩
abbrev main_c_13 : Ref sig .tc := ⟨.hbm, 44, rfl⟩
abbrev main_v23 : Ref sig .tc := ⟨.hbm, 45, rfl⟩
abbrev main_c_14 : Ref sig .tc := ⟨.hbm, 46, rfl⟩
abbrev main_v24 : Ref sig .tc := ⟨.hbm, 47, rfl⟩
abbrev main_v25 : Ref sig .tc := ⟨.hbm, 48, rfl⟩
abbrev main_c_15 : Ref sig .tc := ⟨.hbm, 49, rfl⟩
abbrev main_v26 : Ref sig .tc := ⟨.hbm, 50, rfl⟩
abbrev main_c_16 : Ref sig .tc := ⟨.hbm, 51, rfl⟩
abbrev main_v27 : Ref sig .tc := ⟨.hbm, 52, rfl⟩
abbrev main_c_17 : Ref sig .tc := ⟨.hbm, 53, rfl⟩
abbrev main_v28 : Ref sig .tc := ⟨.hbm, 54, rfl⟩
abbrev main_c_18 : Ref sig .tc := ⟨.hbm, 55, rfl⟩
abbrev main_v29 : Ref sig .tc := ⟨.hbm, 56, rfl⟩
abbrev main_v30 : Ref sig .tc := ⟨.hbm, 57, rfl⟩
abbrev main_c_19 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v66 : BitVec 32 := Scalar.muli v2 c8_i32_33
  let v67 : BitVec 32 := Scalar.addi c0_i32_34 v66
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v68 : BitVec 32 := Scalar.muli v5 c4_i32_35
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v57 : BitVec 32 := Scalar.addi v8 c1_i32_25
  let c4_i32_26 : BitVec 32 := 4#32
  let v58 : BitVec 32 := Scalar.remsi v57 c4_i32_26
  let c1_i32_36 : BitVec 32 := 1#32
  let v70 : BitVec 32 := Scalar.muli v58 c1_i32_36
  let v71 : BitVec 32 := Scalar.addi v69 v70
  v71.toNat
def k0_dev2 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v72 : BitVec 32 := Scalar.muli v2 c8_i32_38
  let v73 : BitVec 32 := Scalar.addi c0_i32_39 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v74 : BitVec 32 := Scalar.muli v5 c4_i32_40
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_27 : BitVec 32 := 2#32
  let v59 : BitVec 32 := Scalar.addi v8 c2_i32_27
  let c4_i32_28 : BitVec 32 := 4#32
  let v60 : BitVec 32 := Scalar.remsi v59 c4_i32_28
  let c1_i32_41 : BitVec 32 := 1#32
  let v76 : BitVec 32 := Scalar.muli v60 c1_i32_41
  let v77 : BitVec 32 := Scalar.addi v75 v76
  v77.toNat
def k0_dev3 (d0 : Dev nD) : Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v78 : BitVec 32 := Scalar.muli v2 c8_i32_43
  let v79 : BitVec 32 := Scalar.addi c0_i32_44 v78
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_45 : BitVec 32 := 4#32
  let v80 : BitVec 32 := Scalar.muli v5 c4_i32_45
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v61 : BitVec 32 := Scalar.addi v8 c3_i32
  let c4_i32_29 : BitVec 32 := 4#32
  let v62 : BitVec 32 := Scalar.remsi v61 c4_i32_29
  let c1_i32_46 : BitVec 32 := 1#32
  let v82 : BitVec 32 := Scalar.muli v62 c1_i32_46
  let v83 : BitVec 32 := Scalar.addi v81 v82
  v83.toNat
def k0_dev4 (d0 : Dev nD) : Nat :=
  let c0_i32_49 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_6 : BitVec 32 := 1#32
  let v15 : BitVec 32 := Scalar.addi v11 c1_i32_6
  let c4_i32_7 : BitVec 32 := 4#32
  let v16 : BitVec 32 := Scalar.remsi v15 c4_i32_7
  let c0_i32_18 : BitVec 32 := 0#32
  let v39 : BitVec 1 := Scalar.cmpi .sgt v16 c0_i32_18
  let v40 : BitVec 32 := Scalar.extui v39
  let c0_i32_19 : BitVec 32 := 0#32
  let v41 : BitVec 1 := Scalar.cmpi .slt v16 c0_i32_19
  let v42 : BitVec 32 := Scalar.extui v41
  let v43 : BitVec 32 := Scalar.subi v40 v42
  let c2_i32_17 : BitVec 32 := 2#32
  let c0_i32_20 : BitVec 32 := 0#32
  let v44 : BitVec 1 := Scalar.cmpi .sgt c2_i32_17 c0_i32_20
  let v45 : BitVec 32 := Scalar.extui v44
  let c0_i32_21 : BitVec 32 := 0#32
  let v46 : BitVec 1 := Scalar.cmpi .slt c2_i32_17 c0_i32_21
  let v47 : BitVec 32 := Scalar.extui v46
  let v48 : BitVec 32 := Scalar.subi v45 v47
  let v49 : BitVec 1 := Scalar.cmpi .ne v43 v48
  let v50 : BitVec 32 := Scalar.remsi v16 c2_i32_17
  let c0_i32_22 : BitVec 32 := 0#32
  let v51 : BitVec 1 := Scalar.cmpi .ne v50 c0_i32_22
  let v52 : BitVec 1 := Scalar.andi v49 v51
  let v38 : BitVec 32 := Scalar.divsi v16 c2_i32_17
  let c1_i32_23 : BitVec 32 := 1#32
  let v53 : BitVec 32 := Scalar.subi v38 c1_i32_23
  let v54 : BitVec 32 := Scalar.select v52 v53 v38
  let c8_i32_48 : BitVec 32 := 8#32
  let v84 : BitVec 32 := Scalar.muli v54 c8_i32_48
  let v85 : BitVec 32 := Scalar.addi c0_i32_49 v84
  let c2_i32_24 : BitVec 32 := 2#32
  let v55 : BitVec 32 := Scalar.remsi v16 c2_i32_24
  let v56 : BitVec 32 := Scalar.xori v55 v54
  let c4_i32_50 : BitVec 32 := 4#32
  let v86 : BitVec 32 := Scalar.muli v56 c4_i32_50
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v88 : BitVec 32 := Scalar.muli v8 c1_i32_51
  let v89 : BitVec 32 := Scalar.addi v87 v88
  v89.toNat
def k0_dev5 (d0 : Dev nD) : Nat :=
  let c0_i32_54 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_3 : BitVec 32 := 4#32
  let v12 : BitVec 32 := Scalar.addi v11 c4_i32_3
  let c1_i32_4 : BitVec 32 := 1#32
  let v13 : BitVec 32 := Scalar.subi v12 c1_i32_4
  let c4_i32_5 : BitVec 32 := 4#32
  let v14 : BitVec 32 := Scalar.remsi v13 c4_i32_5
  let c0_i32 : BitVec 32 := 0#32
  let v20 : BitVec 1 := Scalar.cmpi .sgt v14 c0_i32
  let v21 : BitVec 32 := Scalar.extui v20
  let c0_i32_11 : BitVec 32 := 0#32
  let v22 : BitVec 1 := Scalar.cmpi .slt v14 c0_i32_11
  let v23 : BitVec 32 := Scalar.extui v22
  let v24 : BitVec 32 := Scalar.subi v21 v23
  let c2_i32_10 : BitVec 32 := 2#32
  let c0_i32_12 : BitVec 32 := 0#32
  let v25 : BitVec 1 := Scalar.cmpi .sgt c2_i32_10 c0_i32_12
  let v26 : BitVec 32 := Scalar.extui v25
  let c0_i32_13 : BitVec 32 := 0#32
  let v27 : BitVec 1 := Scalar.cmpi .slt c2_i32_10 c0_i32_13
  let v28 : BitVec 32 := Scalar.extui v27
  let v29 : BitVec 32 := Scalar.subi v26 v28
  let v30 : BitVec 1 := Scalar.cmpi .ne v24 v29
  let v31 : BitVec 32 := Scalar.remsi v14 c2_i32_10
  let c0_i32_14 : BitVec 32 := 0#32
  let v32 : BitVec 1 := Scalar.cmpi .ne v31 c0_i32_14
  let v33 : BitVec 1 := Scalar.andi v30 v32
  let v19 : BitVec 32 := Scalar.divsi v14 c2_i32_10
  let c1_i32_15 : BitVec 32 := 1#32
  let v34 : BitVec 32 := Scalar.subi v19 c1_i32_15
  let v35 : BitVec 32 := Scalar.select v33 v34 v19
  let c8_i32_53 : BitVec 32 := 8#32
  let v90 : BitVec 32 := Scalar.muli v35 c8_i32_53
  let v91 : BitVec 32 := Scalar.addi c0_i32_54 v90
  let c2_i32_16 : BitVec 32 := 2#32
  let v36 : BitVec 32 := Scalar.remsi v14 c2_i32_16
  let v37 : BitVec 32 := Scalar.xori v36 v35
  let c4_i32_55 : BitVec 32 := 4#32
  let v92 : BitVec 32 := Scalar.muli v37 c4_i32_55
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v94 : BitVec 32 := Scalar.muli v8 c1_i32_56
  let v95 : BitVec 32 := Scalar.addi v93 v94
  v95.toNat
def k0_dev6 (d0 : Dev nD) : Nat :=
  let c0_i32_59 : BitVec 32 := 0#32
  let c1_i32_30 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v63 : BitVec 32 := Scalar.subi c1_i32_30 v2
  let c8_i32_58 : BitVec 32 := 8#32
  let v96 : BitVec 32 := Scalar.muli v63 c8_i32_58
  let v97 : BitVec 32 := Scalar.addi c0_i32_59 v96
  let c1_i32_31 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v64 : BitVec 32 := Scalar.subi c1_i32_31 v5
  let c4_i32_60 : BitVec 32 := 4#32
  let v98 : BitVec 32 := Scalar.muli v64 c4_i32_60
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v100 : BitVec 32 := Scalar.muli v8 c1_i32_61
  let v101 : BitVec 32 := Scalar.addi v99 v100
  v101.toNat
def k0_dev7 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v126 : BitVec 32 := Scalar.muli v2 c8_i32_85
  let v127 : BitVec 32 := Scalar.addi c0_i32_86 v126
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v128 : BitVec 32 := Scalar.muli v5 c4_i32_87
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v124 : BitVec 32 := Scalar.addi v8 c1_i32_79
  let c4_i32_80 : BitVec 32 := 4#32
  let v125 : BitVec 32 := Scalar.remsi v124 c4_i32_80
  let c1_i32_88 : BitVec 32 := 1#32
  let v130 : BitVec 32 := Scalar.muli v125 c1_i32_88
  let v131 : BitVec 32 := Scalar.addi v129 v130
  v131.toNat
def k0_dev8 (d0 : Dev nD) : Nat :=
  let c0_i32_100 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_99 : BitVec 32 := 8#32
  let v142 : BitVec 32 := Scalar.muli v2 c8_i32_99
  let v143 : BitVec 32 := Scalar.addi c0_i32_100 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_101 : BitVec 32 := 4#32
  let v144 : BitVec 32 := Scalar.muli v5 c4_i32_101
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_93 : BitVec 32 := 2#32
  let v140 : BitVec 32 := Scalar.addi v8 c2_i32_93
  let c4_i32_94 : BitVec 32 := 4#32
  let v141 : BitVec 32 := Scalar.remsi v140 c4_i32_94
  let c1_i32_102 : BitVec 32 := 1#32
  let v146 : BitVec 32 := Scalar.muli v141 c1_i32_102
  let v147 : BitVec 32 := Scalar.addi v145 v146
  v147.toNat
def k0_dev9 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v158 : BitVec 32 := Scalar.muli v2 c8_i32_113
  let v159 : BitVec 32 := Scalar.addi c0_i32_114 v158
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v160 : BitVec 32 := Scalar.muli v5 c4_i32_115
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_107 : BitVec 32 := 3#32
  let v156 : BitVec 32 := Scalar.addi v8 c3_i32_107
  let c4_i32_108 : BitVec 32 := 4#32
  let v157 : BitVec 32 := Scalar.remsi v156 c4_i32_108
  let c1_i32_116 : BitVec 32 := 1#32
  let v162 : BitVec 32 := Scalar.muli v157 c1_i32_116
  let v163 : BitVec 32 := Scalar.addi v161 v162
  v163.toNat
def k0_dev10 (d0 : Dev nD) : Nat :=
  let c0_i32_220 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_6 : BitVec 32 := 1#32
  let v15 : BitVec 32 := Scalar.addi v11 c1_i32_6
  let c4_i32_7 : BitVec 32 := 4#32
  let v16 : BitVec 32 := Scalar.remsi v15 c4_i32_7
  let c0_i32_18 : BitVec 32 := 0#32
  let v39 : BitVec 1 := Scalar.cmpi .sgt v16 c0_i32_18
  let v40 : BitVec 32 := Scalar.extui v39
  let c0_i32_19 : BitVec 32 := 0#32
  let v41 : BitVec 1 := Scalar.cmpi .slt v16 c0_i32_19
  let v42 : BitVec 32 := Scalar.extui v41
  let v43 : BitVec 32 := Scalar.subi v40 v42
  let c2_i32_17 : BitVec 32 := 2#32
  let c0_i32_20 : BitVec 32 := 0#32
  let v44 : BitVec 1 := Scalar.cmpi .sgt c2_i32_17 c0_i32_20
  let v45 : BitVec 32 := Scalar.extui v44
  let c0_i32_21 : BitVec 32 := 0#32
  let v46 : BitVec 1 := Scalar.cmpi .slt c2_i32_17 c0_i32_21
  let v47 : BitVec 32 := Scalar.extui v46
  let v48 : BitVec 32 := Scalar.subi v45 v47
  let v49 : BitVec 1 := Scalar.cmpi .ne v43 v48
  let v50 : BitVec 32 := Scalar.remsi v16 c2_i32_17
  let c0_i32_22 : BitVec 32 := 0#32
  let v51 : BitVec 1 := Scalar.cmpi .ne v50 c0_i32_22
  let v52 : BitVec 1 := Scalar.andi v49 v51
  let v38 : BitVec 32 := Scalar.divsi v16 c2_i32_17
  let c1_i32_23 : BitVec 32 := 1#32
  let v53 : BitVec 32 := Scalar.subi v38 c1_i32_23
  let v54 : BitVec 32 := Scalar.select v52 v53 v38
  let c8_i32_219 : BitVec 32 := 8#32
  let v359 : BitVec 32 := Scalar.muli v54 c8_i32_219
  let v360 : BitVec 32 := Scalar.addi c0_i32_220 v359
  let c2_i32_24 : BitVec 32 := 2#32
  let v55 : BitVec 32 := Scalar.remsi v16 c2_i32_24
  let v56 : BitVec 32 := Scalar.xori v55 v54
  let c4_i32_221 : BitVec 32 := 4#32
  let v361 : BitVec 32 := Scalar.muli v56 c4_i32_221
  let v362 : BitVec 32 := Scalar.addi v360 v361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v363 : BitVec 32 := Scalar.muli v8 c1_i32_222
  let v364 : BitVec 32 := Scalar.addi v362 v363
  v364.toNat
def k0_dev11 (d0 : Dev nD) : Nat :=
  let c0_i32_230 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_3 : BitVec 32 := 4#32
  let v12 : BitVec 32 := Scalar.addi v11 c4_i32_3
  let c1_i32_4 : BitVec 32 := 1#32
  let v13 : BitVec 32 := Scalar.subi v12 c1_i32_4
  let c4_i32_5 : BitVec 32 := 4#32
  let v14 : BitVec 32 := Scalar.remsi v13 c4_i32_5
  let c0_i32 : BitVec 32 := 0#32
  let v20 : BitVec 1 := Scalar.cmpi .sgt v14 c0_i32
  let v21 : BitVec 32 := Scalar.extui v20
  let c0_i32_11 : BitVec 32 := 0#32
  let v22 : BitVec 1 := Scalar.cmpi .slt v14 c0_i32_11
  let v23 : BitVec 32 := Scalar.extui v22
  let v24 : BitVec 32 := Scalar.subi v21 v23
  let c2_i32_10 : BitVec 32 := 2#32
  let c0_i32_12 : BitVec 32 := 0#32
  let v25 : BitVec 1 := Scalar.cmpi .sgt c2_i32_10 c0_i32_12
  let v26 : BitVec 32 := Scalar.extui v25
  let c0_i32_13 : BitVec 32 := 0#32
  let v27 : BitVec 1 := Scalar.cmpi .slt c2_i32_10 c0_i32_13
  let v28 : BitVec 32 := Scalar.extui v27
  let v29 : BitVec 32 := Scalar.subi v26 v28
  let v30 : BitVec 1 := Scalar.cmpi .ne v24 v29
  let v31 : BitVec 32 := Scalar.remsi v14 c2_i32_10
  let c0_i32_14 : BitVec 32 := 0#32
  let v32 : BitVec 1 := Scalar.cmpi .ne v31 c0_i32_14
  let v33 : BitVec 1 := Scalar.andi v30 v32
  let v19 : BitVec 32 := Scalar.divsi v14 c2_i32_10
  let c1_i32_15 : BitVec 32 := 1#32
  let v34 : BitVec 32 := Scalar.subi v19 c1_i32_15
  let v35 : BitVec 32 := Scalar.select v33 v34 v19
  let c8_i32_229 : BitVec 32 := 8#32
  let v371 : BitVec 32 := Scalar.muli v35 c8_i32_229
  let v372 : BitVec 32 := Scalar.addi c0_i32_230 v371
  let c2_i32_16 : BitVec 32 := 2#32
  let v36 : BitVec 32 := Scalar.remsi v14 c2_i32_16
  let v37 : BitVec 32 := Scalar.xori v36 v35
  let c4_i32_231 : BitVec 32 := 4#32
  let v373 : BitVec 32 := Scalar.muli v37 c4_i32_231
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v375 : BitVec 32 := Scalar.muli v8 c1_i32_232
  let v376 : BitVec 32 := Scalar.addi v374 v375
  v376.toNat
def k0_dev12 (d0 : Dev nD) : Nat :=
  let c0_i32_240 : BitVec 32 := 0#32
  let c1_i32_189 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v269 : BitVec 32 := Scalar.subi c1_i32_189 v2
  let c8_i32_239 : BitVec 32 := 8#32
  let v383 : BitVec 32 := Scalar.muli v269 c8_i32_239
  let v384 : BitVec 32 := Scalar.addi c0_i32_240 v383
  let c1_i32_190 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v270 : BitVec 32 := Scalar.subi c1_i32_190 v5
  let c4_i32_241 : BitVec 32 := 4#32
  let v385 : BitVec 32 := Scalar.muli v270 c4_i32_241
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_242 : BitVec 32 := 1#32
  let v387 : BitVec 32 := Scalar.muli v8 c1_i32_242
  let v388 : BitVec 32 := Scalar.addi v386 v387
  v388.toNat
def k0_dev13 (d0 : Dev nD) : Nat :=
  let c0_i32_276 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c1_i32_6 : BitVec 32 := 1#32
  let v15 : BitVec 32 := Scalar.addi v11 c1_i32_6
  let c4_i32_7 : BitVec 32 := 4#32
  let v16 : BitVec 32 := Scalar.remsi v15 c4_i32_7
  let c0_i32_18 : BitVec 32 := 0#32
  let v39 : BitVec 1 := Scalar.cmpi .sgt v16 c0_i32_18
  let v40 : BitVec 32 := Scalar.extui v39
  let c0_i32_19 : BitVec 32 := 0#32
  let v41 : BitVec 1 := Scalar.cmpi .slt v16 c0_i32_19
  let v42 : BitVec 32 := Scalar.extui v41
  let v43 : BitVec 32 := Scalar.subi v40 v42
  let c2_i32_17 : BitVec 32 := 2#32
  let c0_i32_20 : BitVec 32 := 0#32
  let v44 : BitVec 1 := Scalar.cmpi .sgt c2_i32_17 c0_i32_20
  let v45 : BitVec 32 := Scalar.extui v44
  let c0_i32_21 : BitVec 32 := 0#32
  let v46 : BitVec 1 := Scalar.cmpi .slt c2_i32_17 c0_i32_21
  let v47 : BitVec 32 := Scalar.extui v46
  let v48 : BitVec 32 := Scalar.subi v45 v47
  let v49 : BitVec 1 := Scalar.cmpi .ne v43 v48
  let v50 : BitVec 32 := Scalar.remsi v16 c2_i32_17
  let c0_i32_22 : BitVec 32 := 0#32
  let v51 : BitVec 1 := Scalar.cmpi .ne v50 c0_i32_22
  let v52 : BitVec 1 := Scalar.andi v49 v51
  let v38 : BitVec 32 := Scalar.divsi v16 c2_i32_17
  let c1_i32_23 : BitVec 32 := 1#32
  let v53 : BitVec 32 := Scalar.subi v38 c1_i32_23
  let v54 : BitVec 32 := Scalar.select v52 v53 v38
  let c8_i32_275 : BitVec 32 := 8#32
  let v483 : BitVec 32 := Scalar.muli v54 c8_i32_275
  let v484 : BitVec 32 := Scalar.addi c0_i32_276 v483
  let c2_i32_24 : BitVec 32 := 2#32
  let v55 : BitVec 32 := Scalar.remsi v16 c2_i32_24
  let v56 : BitVec 32 := Scalar.xori v55 v54
  let c4_i32_277 : BitVec 32 := 4#32
  let v485 : BitVec 32 := Scalar.muli v56 c4_i32_277
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v487 : BitVec 32 := Scalar.muli v8 c1_i32_278
  let v488 : BitVec 32 := Scalar.addi v486 v487
  v488.toNat
def k0_dev14 (d0 : Dev nD) : Nat :=
  let c0_i32_285 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_3 : BitVec 32 := 4#32
  let v12 : BitVec 32 := Scalar.addi v11 c4_i32_3
  let c1_i32_4 : BitVec 32 := 1#32
  let v13 : BitVec 32 := Scalar.subi v12 c1_i32_4
  let c4_i32_5 : BitVec 32 := 4#32
  let v14 : BitVec 32 := Scalar.remsi v13 c4_i32_5
  let c0_i32 : BitVec 32 := 0#32
  let v20 : BitVec 1 := Scalar.cmpi .sgt v14 c0_i32
  let v21 : BitVec 32 := Scalar.extui v20
  let c0_i32_11 : BitVec 32 := 0#32
  let v22 : BitVec 1 := Scalar.cmpi .slt v14 c0_i32_11
  let v23 : BitVec 32 := Scalar.extui v22
  let v24 : BitVec 32 := Scalar.subi v21 v23
  let c2_i32_10 : BitVec 32 := 2#32
  let c0_i32_12 : BitVec 32 := 0#32
  let v25 : BitVec 1 := Scalar.cmpi .sgt c2_i32_10 c0_i32_12
  let v26 : BitVec 32 := Scalar.extui v25
  let c0_i32_13 : BitVec 32 := 0#32
  let v27 : BitVec 1 := Scalar.cmpi .slt c2_i32_10 c0_i32_13
  let v28 : BitVec 32 := Scalar.extui v27
  let v29 : BitVec 32 := Scalar.subi v26 v28
  let v30 : BitVec 1 := Scalar.cmpi .ne v24 v29
  let v31 : BitVec 32 := Scalar.remsi v14 c2_i32_10
  let c0_i32_14 : BitVec 32 := 0#32
  let v32 : BitVec 1 := Scalar.cmpi .ne v31 c0_i32_14
  let v33 : BitVec 1 := Scalar.andi v30 v32
  let v19 : BitVec 32 := Scalar.divsi v14 c2_i32_10
  let c1_i32_15 : BitVec 32 := 1#32
  let v34 : BitVec 32 := Scalar.subi v19 c1_i32_15
  let v35 : BitVec 32 := Scalar.select v33 v34 v19
  let c8_i32_284 : BitVec 32 := 8#32
  let v495 : BitVec 32 := Scalar.muli v35 c8_i32_284
  let v496 : BitVec 32 := Scalar.addi c0_i32_285 v495
  let c2_i32_16 : BitVec 32 := 2#32
  let v36 : BitVec 32 := Scalar.remsi v14 c2_i32_16
  let v37 : BitVec 32 := Scalar.xori v36 v35
  let c4_i32_286 : BitVec 32 := 4#32
  let v497 : BitVec 32 := Scalar.muli v37 c4_i32_286
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v499 : BitVec 32 := Scalar.muli v8 c1_i32_287
  let v500 : BitVec 32 := Scalar.addi v498 v499
  v500.toNat
def k0_dev15 (d0 : Dev nD) : Nat :=
  let c0_i32_294 : BitVec 32 := 0#32
  let c1_i32_189 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v269 : BitVec 32 := Scalar.subi c1_i32_189 v2
  let c8_i32_293 : BitVec 32 := 8#32
  let v507 : BitVec 32 := Scalar.muli v269 c8_i32_293
  let v508 : BitVec 32 := Scalar.addi c0_i32_294 v507
  let c1_i32_190 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v270 : BitVec 32 := Scalar.subi c1_i32_190 v5
  let c4_i32_295 : BitVec 32 := 4#32
  let v509 : BitVec 32 := Scalar.muli v270 c4_i32_295
  let v510 : BitVec 32 := Scalar.addi v508 v509
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_296 : BitVec 32 := 1#32
  let v511 : BitVec 32 := Scalar.muli v8 c1_i32_296
  let v512 : BitVec 32 := Scalar.addi v510 v511
  v512.toNat
def k0_off1 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c256_i32 : BitVec 32 := 256#32
  let v520 : BitVec 32 := Scalar.muli v11 c256_i32
  let v521 : Index := Scalar.indexCast v520
  let c0_303 : Index := 0#32
  ![v521.toNat, 0]
def k0_off2 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let c4_i32_3 : BitVec 32 := 4#32
  let v12 : BitVec 32 := Scalar.addi v11 c4_i32_3
  let c1_i32_4 : BitVec 32 := 1#32
  let v13 : BitVec 32 := Scalar.subi v12 c1_i32_4
  let c4_i32_5 : BitVec 32 := 4#32
  let v14 : BitVec 32 := Scalar.remsi v13 c4_i32_5
  let c256_i32_327 : BitVec 32 := 256#32
  let v546 : BitVec 32 := Scalar.muli v14 c256_i32_327
  let v547 : Index := Scalar.indexCast v546
  let c0_328 : Index := 0#32
  ![v547.toNat, 0]
def k0_off3 (d0 : Dev nD) (c1_i32_6 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v15 : BitVec 32 := Scalar.addi v11 c1_i32_6
  let c4_i32_7 : BitVec 32 := 4#32
  let v16 : BitVec 32 := Scalar.remsi v15 c4_i32_7
  let c256_i32_352 : BitVec 32 := 256#32
  let v573 : BitVec 32 := Scalar.muli v16 c256_i32_352
  let v574 : Index := Scalar.indexCast v573
  let c0_353 : Index := 0#32
  ![v574.toNat, 0]
abbrev stage0_0 : Fin 1 → Memref sig .tc .vmem S2x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x256x1024 : Shape := ⟨3, ![2, 256, 1024]⟩
abbrev S1024x256 : Shape := ⟨2, ![1024, 256]⟩
abbrev S256x1024 : Shape := ⟨2, ![256, 1024]⟩
abbrev S1024x1024 : Shape := ⟨2, ![1024, 1024]⟩
abbrev S1024x512 : Shape := ⟨2, ![1024, 512]⟩
abbrev S1024x32 : Shape := ⟨2, ![1024, 32]⟩
abbrev S2x256x256 : Shape := ⟨3, ![2, 256, 256]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x256, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x256, .f32⟩
  | .hbm, ⟨9, _⟩ => ⟨S2x256x1024, .f32⟩
  | .hbm, ⟨10, _⟩ => ⟨S2x256x16x64, .f32⟩
  | .hbm, ⟨11, _⟩ => ⟨S2x256x1024, .f32⟩
  | .hbm, ⟨12, _⟩ => ⟨S2x256x16x64, .f32⟩
  | .hbm, ⟨13, _⟩ => ⟨S2x256x1024, .f32⟩
  | .hbm, ⟨14, _⟩ => ⟨S2x256x16x64, .f32⟩
  | .hbm, ⟨15, _⟩ => ⟨S2x256x512, .f32⟩
  | .hbm, ⟨16, _⟩ => ⟨S2x256x16x32, .f32⟩
  | .hbm, ⟨17, _⟩ => ⟨S2x256x32, .f32⟩
  | .hbm, ⟨18, _⟩ => ⟨S2x256x1x32, .f32⟩
  | .hbm, ⟨19, _⟩ => ⟨S2x16x256x256, .f32⟩
  | .hbm, ⟨20, _⟩ => ⟨S2x256x16x32, .f32⟩
  | .hbm, ⟨21, _⟩ => ⟨S2x16x256x256, .f32⟩
  | .hbm, ⟨22, _⟩ => ⟨S2x16x256x256, .f32⟩
  | .hbm, ⟨23, _⟩ => ⟨S_, .f32⟩
  | .hbm, ⟨24, _⟩ => ⟨S2x16x256x256, .f32⟩
  | .hbm, ⟨25, _⟩ => ⟨S2x16x256x256, .f32⟩
  | .hbm, ⟨26, _⟩ => ⟨S_, .f32⟩
  | .hbm, ⟨27, _⟩ => ⟨S2x16x256, .f32⟩
  | .hbm, ⟨28, _⟩ => ⟨S2x16x256x1, .f32⟩
  | .hbm, ⟨29, _⟩ => ⟨S2x16x256x256, .f32⟩
  | .hbm, ⟨30, _⟩ => ⟨S2x16x256x256, .f32⟩
  | .hbm, ⟨31, _⟩ => ⟨S2x16x256x256, .f32⟩
  | .hbm, ⟨32, _⟩ => ⟨S_, .f32⟩
  | .hbm, ⟨33, _⟩ => ⟨S2x16x256, .f32⟩
  | .hbm, ⟨34, _⟩ => ⟨S2x16x256x1, .f32⟩
  | .hbm, ⟨35, _⟩ => ⟨S2x16x256x256, .f32⟩
  | .hbm, ⟨36, _⟩ => ⟨S2x16x256x256, .f32⟩
  | .hbm, ⟨37, _⟩ => ⟨S2x16x64x256, .f32⟩
  | .hbm, ⟨38, _⟩ => ⟨S2x256x16x64, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Peers.lean ====
/- The devices each device talks to, as permutations of the sixteen devices, and the device words the
   kernel computes for its signals and copies, in that closed form. -/
module

public import proofs.«01_k».proof.Proof.Gen.KernelIdeal

@[expose] public section

set_option maxRecDepth 16384

namespace Cert.KernelIdeal.P

open Idealize.ShloMosaic Idealize.ShloMosaic.TcCoe
open Cert.KernelIdeal Cert.KernelIdeal.Gen

/-- The device `k` places further round the depth axis of the mesh, at the same row and column. -/
def zsh (k : ℕ) (c : Dev nD) : Dev nD := ⟨c.val / 4 * 4 + (c.val % 4 + k) % 4, by
  have := c.isLt
  have h : c.val < 16 := this
  show _ < 16
  omega⟩

/-- The row-column place that follows place `q` on the ring (0,0), (0,1), (1,1), (1,0). -/
def qright : ℕ → ℕ | 0 => 1 | 1 => 3 | 3 => 2 | _ => 0
/-- The place before it. -/
def qleft : ℕ → ℕ | 1 => 0 | 3 => 1 | 2 => 3 | _ => 2

theorem qright_lt (q : ℕ) : qright q < 4 := by unfold qright; split <;> decide
theorem qleft_lt (q : ℕ) : qleft q < 4 := by unfold qleft; split <;> decide

def rt (c : Dev nD) : Dev nD := ⟨qright (c.val / 4) * 4 + c.val % 4, by
  have := qright_lt (c.val / 4); show _ < 16; omega⟩
def lf (c : Dev nD) : Dev nD := ⟨qleft (c.val / 4) * 4 + c.val % 4, by
  have := qleft_lt (c.val / 4); show _ < 16; omega⟩
def op (c : Dev nD) : Dev nD := ⟨(3 - c.val / 4) * 4 + c.val % 4, by show _ < 16; omega⟩

/-- The six peers: one, two, three places round the depth axis; the right, left and opposite on the ring. -/
def peer : Fin 6 → Dev nD → Dev nD
  | 0 => zsh 1 | 1 => zsh 2 | 2 => zsh 3 | 3 => rt | 4 => lf | 5 => op
/-- Which of the six leads back. -/
def back : Fin 6 → Fin 6 | 0 => 2 | 1 => 1 | 2 => 0 | 3 => 4 | 4 => 3 | 5 => 5

theorem peer_back (k : Fin 6) (c : Dev nD) : peer (back k) (peer k c) = c := by revert k c; decide
theorem back_back (k : Fin 6) : back (back k) = k := by revert k; decide
theorem back_peer (k : Fin 6) (c : Dev nD) : peer k (peer (back k) c) = c := by
  have h := peer_back (back k) c; rwa [back_back] at h

def peerE (k : Fin 6) : Dev nD ≃ Dev nD := ⟨peer k, peer (back k), peer_back k, back_peer k⟩

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer 5 c := by revert c; decide +kernel
theorem dev7_eq (c : Dev nD) : (⟨k0_dev7 c, k0_dev7_lt c⟩ : Dev nD) = peer 0 c := by revert c; decide +kernel
theorem dev8_eq (c : Dev nD) : (⟨k0_dev8 c, k0_dev8_lt c⟩ : Dev nD) = peer 1 c := by revert c; decide +kernel
theorem dev9_eq (c : Dev nD) : (⟨k0_dev9 c, k0_dev9_lt c⟩ : Dev nD) = peer 2 c := by revert c; decide +kernel
theorem dev10_eq (c : Dev nD) : (⟨k0_dev10 c, k0_dev10_lt c⟩ : Dev nD) = peer 3 c := by revert c; decide +kernel
theorem dev11_eq (c : Dev nD) : (⟨k0_dev11 c, k0_dev11_lt c⟩ : Dev nD) = peer 4 c := by revert c; decide +kernel
theorem dev12_eq (c : Dev nD) : (⟨k0_dev12 c, k0_dev12_lt c⟩ : Dev nD) = peer 5 c := by revert c; decide +kernel
theorem dev13_eq (c : Dev nD) : (⟨k0_dev13 c, k0_dev13_lt c⟩ : Dev nD) = peer 3 c := by revert c; decide +kernel
theorem dev14_eq (c : Dev nD) : (⟨k0_dev14 c, k0_dev14_lt c⟩ : Dev nD) = peer 4 c := by revert c; decide +kernel
theorem dev15_eq (c : Dev nD) : (⟨k0_dev15 c, k0_dev15_lt c⟩ : Dev nD) = peer 5 c := by revert c; decide +kernel

end Cert.KernelIdeal.P

end
-- ==== Proof.Vals.lean ====
/- What each device computes, as functions of what all sixteen devices were handed: the packed block a device
   sends round the depth axis, the gathered blocks, its four heads' attention outputs, and its result. Each
   value is the kernel's own payload at the values read before it. -/
module

public import proofs.«01_k».proof.Proof.Gen.KernelIdeal.Skeleton
public import proofs.«01_k».proof.Proof.Peers

@[expose] public section

set_option maxRecDepth 16384

noncomputable section

namespace Cert.KernelIdeal.P

open Idealize.ShloMosaic Idealize.ShloMosaic.TcCoe
open Cert.KernelIdeal Cert.KernelIdeal.Gen

variable {F : FTy → Type} [FloatOps F]

/-- What the kernel is handed on one device. -/
structure Inp (F : FTy → Type) where
  x : Vec F S2x256x1024 .bf16
  wdkv : Vec F S1024x64 .bf16
  wuk : Vec F S64x256 .bf16
  wuv : Vec F S64x256 .bf16
  wq : Vec F S1024x256 .bf16
  wqr : Vec F S1024x128 .bf16
  wkr : Vec F S1024x32 .bf16
  wo : Vec F S1024x1024 .bf16

/-! ## The buffers -/

abbrev A0 : Memref sig .tc .vmem S2x256x1024 .bf16 := Memref.whole cc0_stg0_0
abbrev A1 : Memref sig .tc .vmem S1024x64 .bf16 := Memref.whole cc0_stg1_0
abbrev A2 : Memref sig .tc .vmem S64x256 .bf16 := Memref.whole cc0_stg2_0
abbrev A3 : Memref sig .tc .vmem S64x256 .bf16 := Memref.whole cc0_stg3_0
abbrev A4 : Memref sig .tc .vmem S1024x256 .bf16 := Memref.whole cc0_stg4_0
abbrev A5 : Memref sig .tc .vmem S1024x128 .bf16 := Memref.whole cc0_stg5_0
abbrev A6 : Memref sig .tc .vmem S1024x32 .bf16 := Memref.whole cc0_stg6_0
abbrev A7 : Memref sig .tc .vmem S1024x1024 .bf16 := Memref.whole cc0_stg7_0
abbrev A8 : Memref sig .tc .vmem S2x256x1024 .f32 := Memref.whole cc0_stg8_0
/-- The gathered blocks: row `j` is for the device `j` places round the depth axis. -/
abbrev A9 : Memref sig .tc .vmem S4x64x1024 .bf16 := Memref.whole cc0_scratch0
/-- The attention outputs: the device's own, its left neighbour's, its right neighbour's, the opposite's. -/
abbrev A10 : Memref sig .tc .vmem S512x256 .bf16 := Memref.whole cc0_scratch1
abbrev A11 : Memref sig .tc .vmem S512x256 .bf16 := Memref.whole cc0_scratch2
abbrev A12 : Memref sig .tc .vmem S512x256 .bf16 := Memref.whole cc0_scratch3
abbrev A13 : Memref sig .tc .vmem S512x256 .bf16 := Memref.whole cc0_scratch4

/-! ## The rectangles the kernel loads and stores through -/

abbrev Rx0 : Rect S2x256x1024 := Rect.unit (s := S2x256x1024) ![0, 0, 0] S1x256x1024.size inb_S2x256x1024_S1x256x1024_0_0_0
abbrev Rx1 : Rect S2x256x1024 := Rect.unit (s := S2x256x1024) ![1, 0, 0] S1x256x1024.size inb_S2x256x1024_S1x256x1024_1_0_0
abbrev Rc0 : Rect S4x64x1024 := Rect.unit (s := S4x64x1024) ![0, 0, 0] S1x64x1024.size inb_S4x64x1024_S1x64x1024_0_0_0
abbrev Rc1 : Rect S4x64x1024 := Rect.unit (s := S4x64x1024) ![1, 0, 0] S1x64x1024.size inb_S4x64x1024_S1x64x1024_1_0_0
abbrev Rc2 : Rect S4x64x1024 := Rect.unit (s := S4x64x1024) ![2, 0, 0] S1x64x1024.size inb_S4x64x1024_S1x64x1024_2_0_0
abbrev Rc3 : Rect S4x64x1024 := Rect.unit (s := S4x64x1024) ![3, 0, 0] S1x64x1024.size inb_S4x64x1024_S1x64x1024_3_0_0
abbrev Rp5 : Rect S4x64x1024 := Rect.unit (s := S4x64x1024) ![0, 0, 0] S1x64x512.size inb_S4x64x1024_S1x64x512_0_0_0
abbrev Rp6 : Rect S4x64x1024 := Rect.unit (s := S4x64x1024) ![0, 0, 512] S1x64x256.size inb_S4x64x1024_S1x64x256_0_0_512
abbrev Rp7 : Rect S4x64x1024 := Rect.unit (s := S4x64x1024) ![0, 0, 768] S1x64x256.size inb_S4x64x1024_S1x64x256_0_0_768
abbrev Ro : Rect S512x256 := Rect.unit (s := S512x256) ![0, 0] S512x256.size inb_S512x256_S512x256_0_0
abbrev Rh0 : Rect S512x256 := Rect.unit (s := S512x256) ![0, 0] S512x128.size inb_S512x256_S512x128_0_0
abbrev Rh1 : Rect S512x256 := Rect.unit (s := S512x256) ![0, 128] S512x128.size inb_S512x256_S512x128_0_128
abbrev Rq00 : Rect S512x256 := Rect.unit (s := S512x256) ![0, 0] S256x64.size inb_S512x256_S256x64_0_0
abbrev Rq10 : Rect S512x256 := Rect.unit (s := S512x256) ![256, 0] S256x64.size inb_S512x256_S256x64_256_0
abbrev Rq01 : Rect S512x256 := Rect.unit (s := S512x256) ![0, 64] S256x64.size inb_S512x256_S256x64_0_64
abbrev Rq11 : Rect S512x256 := Rect.unit (s := S512x256) ![256, 64] S256x64.size inb_S512x256_S256x64_256_64
abbrev Rq02 : Rect S512x256 := Rect.unit (s := S512x256) ![0, 128] S256x64.size inb_S512x256_S256x64_0_128
abbrev Rq12 : Rect S512x256 := Rect.unit (s := S512x256) ![256, 128] S256x64.size inb_S512x256_S256x64_256_128
abbrev Rq03 : Rect S512x256 := Rect.unit (s := S512x256) ![0, 192] S256x64.size inb_S512x256_S256x64_0_192
abbrev Rq13 : Rect S512x256 := Rect.unit (s := S512x256) ![256, 192] S256x64.size inb_S512x256_S256x64_256_192
abbrev Rw1 (c : Dev nD) : Rect S1024x1024 := Rect.unit (s := S1024x1024) (k0_off1 c) S256x1024.size (k0_off1_inb c)
abbrev Rw2 (c : Dev nD) : Rect S1024x1024 := Rect.unit (s := S1024x1024) (k0_off2 c) S256x1024.size (k0_off2_inb c)
abbrev Rw3 (c : Dev nD) : Rect S1024x1024 := Rect.unit (s := S1024x1024) (k0_off3 c 1#32) S256x1024.size (k0_off3_inb c 0)
abbrev Rw4 (c : Dev nD) : Rect S1024x1024 := Rect.unit (s := S1024x1024) (k0_off3 c 2#32) S256x1024.size (k0_off3_inb c 1)

/-! ## One device's own inputs -/

section Own

variable (I : Inp F)

def V102 : Vec F S1x256x1024 .bf16 := (A0.access Rx0).read (Elt F) I.x
def V104 : Vec F S1x256x1024 .bf16 := (A0.access Rx1).read (Elt F) I.x
def V107 : Vec F S1024x64 .bf16 := (A1.access (Rect.unit (s := S1024x64) ![0, 0] S1024x64.size inb_S1024x64_S1024x64_0_0)).read (Elt F) I.wdkv
def V111 : Vec F S64x256 .bf16 := (A2.access (Rect.unit (s := S64x256) ![0, 0] S64x256.size inb_S64x256_S64x256_0_0)).read (Elt F) I.wuk
def V113 : Vec F S64x256 .bf16 := (A3.access (Rect.unit (s := S64x256) ![0, 0] S64x256.size inb_S64x256_S64x256_0_0)).read (Elt F) I.wuv
def V174 : Vec F S1024x256 .bf16 := (A4.access (Rect.unit (s := S1024x256) ![0, 0] S1024x256.size inb_S1024x256_S1024x256_0_0)).read (Elt F) I.wq
def V178 : Vec F S1024x128 .bf16 := (A5.access (Rect.unit (s := S1024x128) ![0, 0] S1024x128.size inb_S1024x128_S1024x128_0_0)).read (Elt F) I.wqr
def V182 : Vec F S1024x32 .bf16 := (A6.access (Rect.unit (s := S1024x32) ![0, 0] S1024x32.size inb_S1024x32_S1024x32_0_0)).read (Elt F) I.wkr

def V106 : FVec F S512x1024 .bf16 := k0_pay1 (V102 I) (V104 I)
def V110 : FVec F S64x512 .bf16 := k0_pay2 (V102 I) (V104 I) (V107 I)
def V112 : FVec F S64x256 .bf16 := k0_pay3 (V111 I)
def V114 : FVec F S64x256 .bf16 := k0_pay4 (V113 I)
/-- The three column bands of the block a device sends: its latent block, and its two up-projection blocks. -/
def pk5 : FVec F S1x64x512 .bf16 := k0_pay5 (V102 I) (V104 I) (V107 I)
def pk6 : FVec F S1x64x256 .bf16 := k0_pay6 (V111 I)
def pk7 : FVec F S1x64x256 .bf16 := k0_pay7 (V113 I)

def V172 : FVec F S512x256 .f32 := k0_pay8 (V110 I) (V112 I)
def V173 : FVec F S512x256 .f32 := k0_pay9 (V110 I) (V114 I)
def V177 : FVec F S512x256 .bf16 := k0_pay10 (V106 I) (V174 I)
def V181 : FVec F S512x128 .bf16 := k0_pay11 (V106 I) (V178 I)
def V188 : FVec F S256x256 .f32 := k0_pay14 (V106 I) (V178 I) (V182 I)
def V190 : FVec F S256x256 .f32 := k0_pay15 (V106 I) (V178 I) (V182 I)
def V192 : FVec F S256x256 .f32 := k0_pay16 (V106 I) (V178 I) (V182 I)
def V194 : FVec F S256x256 .f32 := k0_pay17 (V106 I) (V178 I) (V182 I)
def V195 : FVec F S256x32 .bf16 := k0_pay18 (V106 I) (V182 I)
def V196 : FVec F S256x32 .bf16 := k0_pay19 (V106 I) (V178 I)
def V197 : FVec F S256x256 .f32 := k0_pay20 (V195 I) (V196 I)
def V199 : FVec F S256x256 .f32 := k0_pay21 (V181 I) (V195 I)
def V201 : FVec F S256x256 .f32 := k0_pay22 (V181 I) (V195 I)
def V203 : FVec F S256x256 .f32 := k0_pay23 (V181 I) (V195 I)

/-- The block a device sends, entry by entry. -/
def packAt (a : Fin 64) (b : Fin 1024) : Elt F .bf16 :=
  if h5 : b.val < 512 then pk5 I (fun | 0 => (0 : Fin 1) | 1 => a | 2 => (⟨b.val, h5⟩ : Fin 512))
  else if h6 : b.val < 768 then pk6 I (fun | 0 => (0 : Fin 1) | 1 => a | 2 => (⟨b.val - 512, by omega⟩ : Fin 256))
  else pk7 I (fun | 0 => (0 : Fin 1) | 1 => a | 2 => (⟨b.val - 768, by omega⟩ : Fin 256))

end Own

/-! ## What the devices make together -/

section All

variable (X : Dev nD → Inp F) (c : Dev nD)

/-- What device `c`'s gather buffer ends holding. -/
def comm : (cc0_scratch0 : Ref sig .tc).ty.Contents (Elt F) :=
  fun i : S4x64x1024.Idx => packAt (X (zsh (i 0).val c)) (i 1) (i 2)

def V216 : Vec F S1x64x1024 .bf16 := (A9.access Rc1).read (Elt F) (comm X c)
def V237 : Vec F S1x64x1024 .bf16 := (A9.access Rc2).read (Elt F) (comm X c)
def V258 : Vec F S1x64x1024 .bf16 := (A9.access Rc3).read (Elt F) (comm X c)

def V223 : FVec F S512x256 .f32 := k0_pay26 (V172 (X c)) (V216 X c)
def V224 : FVec F S512x256 .f32 := k0_pay27 (V173 (X c)) (V216 X c)
def V244 : FVec F S512x256 .f32 := k0_pay30 (V223 X c) (V237 X c)
def V245 : FVec F S512x256 .f32 := k0_pay31 (V224 X c) (V237 X c)
def V259 : FVec F S64x1024 .bf16 := k0_pay32 (V258 X c)
def V260 : FVec F S64x512 .bf16 := k0_pay33 (V258 X c)
def V267 : FVec F S512x256 .bf16 := k0_pay34 (V244 X c) (V259 X c) (V260 X c)
def V268 : FVec F S512x256 .bf16 := k0_pay35 (V245 X c) (V259 X c) (V260 X c)
def V295 : FVec F S256x64 .bf16 := k0_pay37 (V245 X c) (V259 X c) (V260 X c)
def V304 : FVec F S256x256 .f32 := k0_pay38 (V177 (X c)) (V197 (X c)) (V244 X c) (V259 X c) (V260 X c)
def V339 : FVec F S256x64 .bf16 := k0_pay41 (V268 X c)
def V348 : FVec F S256x256 .f32 := k0_pay42 (V177 (X c)) (V199 (X c)) (V267 X c)
def V419 : FVec F S256x64 .bf16 := k0_pay45 (V268 X c)
def V421 : FVec F S256x256 .f32 := k0_pay46 (V177 (X c)) (V201 (X c)) (V267 X c)
def V463 : FVec F S256x64 .bf16 := k0_pay49 (V268 X c)
def V465 : FVec F S256x256 .f32 := k0_pay50 (V177 (X c)) (V203 (X c)) (V267 X c)

/-- One head's output on one batch row: first the batch row, then the head. -/
def o00 : FVec F S256x64 .bf16 := k0_pay36 (V177 (X c)) (V188 (X c)) (V244 X c) (V245 X c) (V259 X c) (V260 X c)
def o10 : FVec F S256x64 .bf16 := k0_pay39 (V295 X c) (V304 X c)
def o01 : FVec F S256x64 .bf16 := k0_pay40 (V177 (X c)) (V190 (X c)) (V267 X c) (V268 X c)
def o11 : FVec F S256x64 .bf16 := k0_pay43 (V339 X c) (V348 X c)
def o02 : FVec F S256x64 .bf16 := k0_pay44 (V177 (X c)) (V192 (X c)) (V267 X c) (V268 X c)
def o12 : FVec F S256x64 .bf16 := k0_pay47 (V419 X c) (V421 X c) (Scalar.ofBits .f32 0x3DD105EC#32)
def o03 : FVec F S256x64 .bf16 := k0_pay48 (V177 (X c)) (V194 (X c)) (V267 X c) (V268 X c)
def o13 : FVec F S256x64 .bf16 := k0_pay51 (V463 X c) (V465 X c) (Scalar.ofBits .f32 0x3DD105EC#32)

/-- The block at batch row `b` and head `h`. -/
def oBlk (b : ℕ) (h : ℕ) : FVec F S256x64 .bf16 :=
  match b, h with
  | 0, 0 => o00 X c | 0, 1 => o01 X c | 0, 2 => o02 X c | 0, _ => o03 X c
  | _, 0 => o10 X c | _, 1 => o11 X c | _, 2 => o12 X c | _, _ => o13 X c

/-- The place of an element inside its block of 256 rows and 64 columns. -/
def blkIdx (i : S512x256.Idx) : S256x64.Idx :=
  fun | 0 => (⟨(i 0).val % 256, Nat.mod_lt _ (by decide)⟩ : Fin 256) | 1 => (⟨(i 1).val % 64, Nat.mod_lt _ (by decide)⟩ : Fin 64)

/-- What device `c`'s own output buffer ends holding, and its neighbours' landing buffers in turn. -/
def own : (cc0_scratch1 : Ref sig .tc).ty.Contents (Elt F) :=
  fun i : S512x256.Idx => oBlk X c ((i 0).val / 256) ((i 1).val / 64) (blkIdx i)

def V519 : Vec F S512x256 .bf16 := (A10.access Ro).read (Elt F) (own X c)
def V545 : Vec F S512x256 .bf16 := (A11.access Ro).read (Elt F) (own X (lf c))
def V572 : Vec F S512x256 .bf16 := (A12.access Ro).read (Elt F) (own X (rt c))
def V599 : Vec F S512x256 .bf16 := (A13.access Ro).read (Elt F) (own X (op c))
def V522 : Vec F S256x1024 .bf16 := (A7.access (Rw1 c)).read (Elt F) (X c).wo
def V548 : Vec F S256x1024 .bf16 := (A7.access (Rw2 c)).read (Elt F) (X c).wo
def V575 : Vec F S256x1024 .bf16 := (A7.access (Rw3 c)).read (Elt F) (X c).wo
def V602 : Vec F S256x1024 .bf16 := (A7.access (Rw4 c)).read (Elt F) (X c).wo

def V524 : FVec F S512x1024 .f32 := k0_pay52 (V519 X c) (V522 X c)
def V551 : FVec F S512x1024 .f32 := k0_pay53 (V524 X c) (V545 X c) (V548 X c)
def V578 : FVec F S512x1024 .f32 := k0_pay54 (V551 X c) (V572 X c) (V575 X c)
def out0 : FVec F S1x256x1024 .f32 := k0_pay56 (V578 X c) (V599 X c) (V602 X c)
def out1 : FVec F S1x256x1024 .f32 := k0_pay57 (V578 X c) (V599 X c) (V602 X c)

/-- The device's result. -/
def outC : (cc0_stg8_0 : Ref sig .tc).ty.Contents (Elt F) :=
  fun i : S2x256x1024.Idx => if (i 0).val = 0 then out0 X c (fun | 0 => (0 : Fin 1) | 1 => i 1 | 2 => i 2)
    else out1 X c (fun | 0 => (0 : Fin 1) | 1 => i 1 | 2 => i 2)

end All

end Cert.KernelIdeal.P

end
-- ==== Proof.Views.lean ====
/- The pieces of the buffers that are copied and waited for: the four rows of the gather buffer and the two
   column halves of the attention output buffers. What lies where, and what a copy or a store leaves there. -/
module

public import proofs.«01_k».proof.Proof.Vals
public import Idealize.ShloMosaic.Lib.Pipeline.ValueKit.Geometry

@[expose] public section

set_option maxRecDepth 16384

noncomputable section

namespace Cert.KernelIdeal.P

open Idealize.ShloMosaic Idealize.ShloMosaic.TcCoe
open Cert.KernelIdeal Cert.KernelIdeal.Gen

variable {F : FTy → Type} [FloatOps F]

/-! ## The views -/

abbrev sl0 : Memref sig .tc .vmem S64x1024 .bf16 := (A9.slice Rc0 (fun _ => rfl)).squeeze S64x1024 squeezes_S1x64x1024_S64x1024
abbrev sl1 : Memref sig .tc .vmem S64x1024 .bf16 := (A9.slice Rc1 (fun _ => rfl)).squeeze S64x1024 squeezes_S1x64x1024_S64x1024
abbrev sl2 : Memref sig .tc .vmem S64x1024 .bf16 := (A9.slice Rc2 (fun _ => rfl)).squeeze S64x1024 squeezes_S1x64x1024_S64x1024
abbrev sl3 : Memref sig .tc .vmem S64x1024 .bf16 := (A9.slice Rc3 (fun _ => rfl)).squeeze S64x1024 squeezes_S1x64x1024_S64x1024
/-- The left and right column halves of an output buffer. -/
abbrev lo (M : Memref sig .tc .vmem S512x256 .bf16) : Memref sig .tc .vmem S512x128 .bf16 := M.slice Rh0 (fun _ => rfl)
abbrev hi (M : Memref sig .tc .vmem S512x256 .bf16) : Memref sig .tc .vmem S512x128 .bf16 := M.slice Rh1 (fun _ => rfl)

/-! ## Their element sets -/

/-- Row `k` of the gather buffer. -/
def slotSet (k : ℕ) : Finset S4x64x1024.Idx := Finset.univ.filter fun i => (i 0).val = k
/-- Column half `h` of an output buffer. -/
def halfSet (h : ℕ) : Finset S512x256.Idx := Finset.univ.filter fun i => (i 1).val / 128 = h

theorem mem_slotSet {k : ℕ} {i : S4x64x1024.Idx} : i ∈ slotSet k ↔ (i 0).val = k := by simp [slotSet]
theorem mem_halfSet {h : ℕ} {i : S512x256.Idx} : i ∈ halfSet h ↔ (i 1).val / 128 = h := by simp [halfSet]

theorem rc_set (k : ℕ) (inb) : (Rect.unit (s := S4x64x1024) ![k, 0, 0] S1x64x1024.size inb).set = slotSet k := by
  ext i
  rw [Rect.mem_set_unit, mem_slotSet]
  have h1 : (i 1).val < 64 := (i 1).isLt
  have h2 : (i 2).val < 1024 := (i 2).isLt
  constructor
  · intro h
    have h0 : k ≤ (i 0).val ∧ (i 0).val < k + 1 := h 0
    omega
  · intro h a
    match a with
    | 0 => show k ≤ (i 0).val ∧ (i 0).val < k + 1; omega
    | 1 => show 0 ≤ (i 1).val ∧ (i 1).val < 0 + 64; omega
    | 2 => show 0 ≤ (i 2).val ∧ (i 2).val < 0 + 1024; omega

theorem rh_set (h k : ℕ) (hk : k = 128 * h) (inb) :
    (Rect.unit (s := S512x256) ![0, k] S512x128.size inb).set = halfSet h := by
  ext i
  rw [Rect.mem_set_unit, mem_halfSet]
  have h0 : (i 0).val < 512 := (i 0).isLt
  have h1 : (i 1).val < 256 := (i 1).isLt
  constructor
  · intro H
    have h1 : k ≤ (i 1).val ∧ (i 1).val < k + 128 := H 1
    omega
  · intro H a
    match a with
    | 0 => show 0 ≤ (i 0).val ∧ (i 0).val < 0 + 512; omega
    | 1 => show k ≤ (i 1).val ∧ (i 1).val < k + 128; omega

theorem sl0_set : (sl0 : Memref sig .tc .vmem S64x1024 .bf16).view.set = slotSet 0 :=
  (View.set_reshape _ _).trans ((View.set_slice_whole _ _).trans (rc_set 0 _))
theorem sl1_set : (sl1 : Memref sig .tc .vmem S64x1024 .bf16).view.set = slotSet 1 :=
  (View.set_reshape _ _).trans ((View.set_slice_whole _ _).trans (rc_set 1 _))
theorem sl2_set : (sl2 : Memref sig .tc .vmem S64x1024 .bf16).view.set = slotSet 2 :=
  (View.set_reshape _ _).trans ((View.set_slice_whole _ _).trans (rc_set 2 _))
theorem sl3_set : (sl3 : Memref sig .tc .vmem S64x1024 .bf16).view.set = slotSet 3 :=
  (View.set_reshape _ _).trans ((View.set_slice_whole _ _).trans (rc_set 3 _))
theorem lo10_set : (lo A10).view.set = halfSet 0 := (View.set_slice_whole _ _).trans (rh_set 0 0 rfl _)
theorem lo11_set : (lo A11).view.set = halfSet 0 := (View.set_slice_whole _ _).trans (rh_set 0 0 rfl _)
theorem lo12_set : (lo A12).view.set = halfSet 0 := (View.set_slice_whole _ _).trans (rh_set 0 0 rfl _)
theorem lo13_set : (lo A13).view.set = halfSet 0 := (View.set_slice_whole _ _).trans (rh_set 0 0 rfl _)
theorem hi10_set : (hi A10).view.set = halfSet 1 := (View.set_slice_whole _ _).trans (rh_set 1 128 rfl _)
theorem hi11_set : (hi A11).view.set = halfSet 1 := (View.set_slice_whole _ _).trans (rh_set 1 128 rfl _)
theorem hi12_set : (hi A12).view.set = halfSet 1 := (View.set_slice_whole _ _).trans (rh_set 1 128 rfl _)
theorem hi13_set : (hi A13).view.set = halfSet 1 := (View.set_slice_whole _ _).trans (rh_set 1 128 rfl _)

theorem half_disj : Disjoint (halfSet 0) (halfSet 1) :=
  Finset.disjoint_left.mpr fun i h0 h1 => by rw [mem_halfSet] at h0 h1; omega
theorem half_union : halfSet 0 ∪ halfSet 1 = Finset.univ := by
  ext i
  have h1 : (i 1).val < 256 := (i 1).isLt
  simp only [Finset.mem_union, mem_halfSet, Finset.mem_univ, iff_true]; omega
theorem slot_disj (k k' : ℕ) (h : k ≠ k') : Disjoint (slotSet k) (slotSet k') :=
  Finset.disjoint_left.mpr fun i h0 h1 => by rw [mem_slotSet] at h0 h1; exact h (h0.symm.trans h1)
theorem slot_union : slotSet 0 ∪ (slotSet 1 ∪ (slotSet 2 ∪ slotSet 3)) = Finset.univ := by
  ext i
  have h1 : (i 0).val < 4 := (i 0).isLt
  simp only [Finset.mem_union, mem_slotSet, Finset.mem_univ, iff_true]; omega

/-! ## A write through a view, read at an element -/

theorem wr_in {κ : Kind} (b : Ref sig κ) (r : Rect b.ty.shape) (f : b.ty.Contents (Elt F)) (w : r.shape.Idx → Elt F b.ty.elt)
    (j : r.shape.Idx) : ((View.whole b).slice r).write (Elt F) f w Finset.univ (r.emb j) = w j :=
  View.write_emb_of_mem (v := (View.whole b).slice r) f w (Finset.mem_univ j)

theorem wr_out {κ : Kind} (b : Ref sig κ) (r : Rect b.ty.shape) (f : b.ty.Contents (Elt F)) (w : r.shape.Idx → Elt F b.ty.elt)
    (i : b.ty.shape.Idx) (h : i ∉ r.set) : ((View.whole b).slice r).write (Elt F) f w Finset.univ i = f i :=
  View.write_of_not_mem (v := (View.whole b).slice r) f w Finset.univ (by
    intro hi
    exact h (by rw [← View.set_slice_whole b r]; exact hi))

theorem mem_emb {s : Shape} (r : Rect s) (i : s.Idx) (h : i ∈ r.set) : ∃ j, r.emb j = i := by
  rw [← Rect.map_emb_univ, Finset.mem_map] at h
  exact ⟨h.choose, h.choose_spec.2⟩

/-! ## The gather buffer -/

theorem comm_congr (X : Dev nD → Inp F) (c c' : Dev nD) (i i' : S4x64x1024.Idx)
    (h0 : zsh (i 0).val c = zsh (i' 0).val c') (h1 : (i 1).val = (i' 1).val) (h2 : (i 2).val = (i' 2).val) :
    comm X c i = comm X c' i' := by
  unfold comm
  rw [h0, show (i 1 : Fin 64) = i' 1 from Fin.ext h1, show (i 2 : Fin 1024) = i' 2 from Fin.ext h2]

/-- A copied row lands on row `k` of another device as that device's gather buffer says. -/
theorem land_slot (k : ℕ) (inb) (X : Dev nD → Inp F) (c t : Dev nD) (ht : zsh k t = zsh 0 c)
    (fd : (cc0_scratch0 : Ref sig .tc).ty.Contents (Elt F)) (i : S4x64x1024.Idx)
    (hi : i ∈ slotSet k) :
    ((A9.slice (Rect.unit (s := S4x64x1024) ![k, 0, 0] S1x64x1024.size inb) (fun _ => rfl)).squeeze S64x1024 squeezes_S1x64x1024_S64x1024).view.write
      (Elt F) fd (sl0.view.read (Elt F) (comm X c)) Finset.univ i = comm X t i := by
  rw [← rc_set k inb] at hi
  obtain ⟨j, rfl⟩ := mem_emb _ _ hi
  obtain ⟨x, rfl⟩ := (Shape.reshapeEquiv (Shape.Squeezes.numel_eq squeezes_S1x64x1024_S64x1024)).surjective j
  refine (View.write_emb_of_mem (v := ((A9.slice (Rect.unit (s := S4x64x1024) ![k, 0, 0] S1x64x1024.size inb) (fun _ => rfl)).squeeze S64x1024
    squeezes_S1x64x1024_S64x1024).view) fd (sl0.view.read (Elt F) (comm X c)) (Finset.mem_univ x)).trans ?_
  generalize hy : (Shape.reshapeEquiv (Shape.Squeezes.numel_eq squeezes_S1x64x1024_S64x1024)) x = y
  have hy0 : (y 0).val = 0 := Nat.lt_one_iff.mp (y 0).isLt
  show comm X c (Rc0.emb ((Shape.reshapeEquiv _) x)) = _
  rw [hy]
  apply comm_congr
  · rw [ValueKit.rect_emb_unit_val, ValueKit.rect_emb_unit_val]
    show zsh (0 + (y 0).val) c = zsh (k + (y 0).val) t
    rw [hy0]; exact ht.symm
  · rw [ValueKit.rect_emb_unit_val, ValueKit.rect_emb_unit_val]; rfl
  · rw [ValueKit.rect_emb_unit_val, ValueKit.rect_emb_unit_val]; rfl

/-- After its three stores, a device's row 0 holds its own packed block. -/
theorem packed (X : Dev nD → Inp F) (c : Dev nD) (f : (cc0_scratch0 : Ref sig .tc).ty.Contents (Elt F))
    (i : S4x64x1024.Idx) (hi : i ∈ slotSet 0) :
    (A9.access Rp7).write (Elt F) ((A9.access Rp6).write (Elt F) ((A9.access Rp5).write (Elt F) f (pk5 (X c)) Finset.univ)
      (pk6 (X c)) Finset.univ) (pk7 (X c)) Finset.univ i = comm X c i := by
  rw [mem_slotSet] at hi
  have hb1 : (i 1).val < 64 := (i 1).isLt
  have hb2 : (i 2).val < 1024 := (i 2).isLt
  have hz : zsh (i 0).val c = c := by
    rw [hi]; apply Fin.ext; show c.val / 4 * 4 + (c.val % 4 + 0) % 4 = c.val; omega
  unfold comm packAt
  rw [hz]
  by_cases h7 : 768 ≤ (i 2).val
  · rw [dif_neg (by omega), dif_neg (by omega)]
    have e : i = Rp7.emb (fun | 0 => (0 : Fin 1) | 1 => i 1 | 2 => (⟨(i 2).val - 768, by omega⟩ : Fin 256)) := by
      funext a; apply Fin.ext; rw [ValueKit.rect_emb_unit_val]
      match a with
      | 0 => show (i 0).val = 0 + 0; omega
      | 1 => show (i 1).val = 0 + (i 1).val; omega
      | 2 => show (i 2).val = 768 + ((i 2).val - 768); omega
    conv_lhs => rw [e]
    exact wr_in (F := F) cc0_scratch0 Rp7 _ _ _
  · have n7 : i ∉ Rp7.set := by
      rw [Rect.mem_set_unit]; intro h
      have : 768 ≤ (i 2).val ∧ _ := h 2
      omega
    refine (wr_out (F := F) cc0_scratch0 Rp7 _ _ i n7).trans ?_
    by_cases h6 : 512 ≤ (i 2).val
    · rw [dif_neg (by omega), dif_pos (by omega)]
      have e : i = Rp6.emb (fun | 0 => (0 : Fin 1) | 1 => i 1 | 2 => (⟨(i 2).val - 512, by omega⟩ : Fin 256)) := by
        funext a; apply Fin.ext; rw [ValueKit.rect_emb_unit_val]
        match a with
        | 0 => show (i 0).val = 0 + 0; omega
        | 1 => show (i 1).val = 0 + (i 1).val; omega
        | 2 => show (i 2).val = 512 + ((i 2).val - 512); omega
      conv_lhs => rw [e]
      exact wr_in (F := F) cc0_scratch0 Rp6 _ _ _
    · rw [dif_pos (by omega)]
      have n6 : i ∉ Rp6.set := by
        rw [Rect.mem_set_unit]; intro h
        have : 512 ≤ (i 2).val ∧ _ := h 2
        omega
      refine (wr_out (F := F) cc0_scratch0 Rp6 _ _ i n6).trans ?_
      have e : i = Rp5.emb (fun | 0 => (0 : Fin 1) | 1 => i 1 | 2 => (⟨(i 2).val, by omega⟩ : Fin 512)) := by
        funext a; apply Fin.ext; rw [ValueKit.rect_emb_unit_val]
        match a with
        | 0 => show (i 0).val = 0 + 0; omega
        | 1 => show (i 1).val = 0 + (i 1).val; omega
        | 2 => show (i 2).val = 0 + (i 2).val; omega
      conv_lhs => rw [e]
      exact wr_in (F := F) cc0_scratch0 Rp5 _ _ _

/-! ## The output buffers -/

/-- `g` agrees with device `c`'s outputs on batch row `b`, head `h`. -/
def Has (X : Dev nD → Inp F) (c : Dev nD) (b h : ℕ) (g : (cc0_scratch1 : Ref sig .tc).ty.Contents (Elt F)) : Prop :=
  ∀ i : S512x256.Idx, (i 0).val / 256 = b → (i 1).val / 64 = h → g i = own X c i

theorem has_new (X : Dev nD → Inp F) (c : Dev nD) (b h : ℕ) (p q : ℕ) (hp : p = 256 * b) (hq : q = 64 * h) (inb)
    (f : (cc0_scratch1 : Ref sig .tc).ty.Contents (Elt F)) (w : FVec F S256x64 .bf16) (hw : w = oBlk X c b h) :
    Has X c b h ((A10.access (Rect.unit (s := S512x256) ![p, q] S256x64.size inb)).write (Elt F) f w Finset.univ) := by
  subst hw
  intro i h0 h1
  have e : i = (Rect.unit (s := S512x256) ![p, q] S256x64.size inb).emb (blkIdx i) := by
    funext a; apply Fin.ext; rw [ValueKit.rect_emb_unit_val]
    match a with
    | 0 => show (i 0).val = p + (i 0).val % 256; omega
    | 1 => show (i 1).val = q + (i 1).val % 64; omega
  unfold own
  rw [h0, h1]
  conv_lhs => rw [e]
  exact wr_in (F := F) cc0_scratch1 (Rect.unit (s := S512x256) ![p, q] S256x64.size inb) f (oBlk X c b h) (blkIdx i)

theorem has_old (X : Dev nD → Inp F) (c : Dev nD) (b h : ℕ) (p q : ℕ) (b' h' : ℕ) (hp : p = 256 * b') (hq : q = 64 * h')
    (hne : ¬ (b = b' ∧ h = h')) (inb)
    (f : (cc0_scratch1 : Ref sig .tc).ty.Contents (Elt F)) (w : FVec F S256x64 .bf16) (hf : Has X c b h f) :
    Has X c b h ((A10.access (Rect.unit (s := S512x256) ![p, q] S256x64.size inb)).write (Elt F) f w Finset.univ) := by
  intro i h0 h1
  refine (wr_out (F := F) cc0_scratch1 (Rect.unit (s := S512x256) ![p, q] S256x64.size inb) _ _ i ?_).trans (hf i h0 h1)
  rw [Rect.mem_set_unit]; intro H
  have H0 : p ≤ (i 0).val ∧ (i 0).val < p + 256 := H 0
  have H1 : q ≤ (i 1).val ∧ (i 1).val < q + 64 := H 1
  omega

/-- The four blocks of a column half make the half. -/
theorem has_half (X : Dev nD → Inp F) (c : Dev nD) (h : ℕ) (g : (cc0_scratch1 : Ref sig .tc).ty.Contents (Elt F))
    (h00 : Has X c 0 (2 * h) g) (h10 : Has X c 1 (2 * h) g) (h01 : Has X c 0 (2 * h + 1) g) (h11 : Has X c 1 (2 * h + 1) g) :
    ∀ i ∈ halfSet h, g i = own X c i := by
  intro i hi
  rw [mem_halfSet] at hi
  have hb0 : (i 0).val < 512 := (i 0).isLt
  rcases (show (i 0).val / 256 = 0 ∨ (i 0).val / 256 = 1 by omega) with e0 | e0 <;>
    rcases (show (i 1).val / 64 = 2 * h ∨ (i 1).val / 64 = 2 * h + 1 by omega) with e1 | e1
  · exact h00 i e0 e1
  · exact h01 i e0 e1
  · exact h10 i e0 e1
  · exact h11 i e0 e1

/-- The block's cells lie in its column half. -/
theorem rq_sub (p q h : ℕ) (hq : q = 128 * h ∨ q = 128 * h + 64) (inb) :
    ((A10.access (Rect.unit (s := S512x256) ![p, q] S256x64.size inb)).set : Finset S512x256.Idx) ⊆ halfSet h := by
  intro i hi
  rw [show ((A10.access (Rect.unit (s := S512x256) ![p, q] S256x64.size inb)).set : Finset S512x256.Idx)
    = (Rect.unit (s := S512x256) ![p, q] S256x64.size inb).set from View.set_slice_whole _ _, Rect.mem_set_unit] at hi
  have H1 : q ≤ (i 1).val ∧ (i 1).val < q + 64 := hi 1
  rw [mem_halfSet]; omega

theorem rp_sub (q n : ℕ) (inb) :
    ((A9.access (Rect.unit (s := S4x64x1024) ![0, 0, q] ![1, 64, n] inb)).set : Finset S4x64x1024.Idx) ⊆ slotSet 0 := by
  intro i hi
  rw [show ((A9.access (Rect.unit (s := S4x64x1024) ![0, 0, q] ![1, 64, n] inb)).set : Finset S4x64x1024.Idx)
    = (Rect.unit (s := S4x64x1024) ![0, 0, q] ![1, 64, n] inb).set from View.set_slice_whole _ _, Rect.mem_set_unit] at hi
  have H1 : 0 ≤ (i 0).val ∧ (i 0).val < 0 + 1 := hi 0
  rw [mem_slotSet]; omega

/-- The two stored batch rows make the result. -/
theorem outC_eq (X : Dev nD → Inp F) (c : Dev nD) (f : (cc0_stg8_0 : Ref sig .tc).ty.Contents (Elt F)) :
    (A8.access Rx1).write (Elt F) ((A8.access Rx0).write (Elt F) f (out0 X c) Finset.univ) (out1 X c) Finset.univ = outC X c := by
  funext i
  have hb0 : ((i : S2x256x1024.Idx) 0).val < 2 := (i 0).isLt
  unfold outC
  by_cases h : ((i : S2x256x1024.Idx) 0).val = 0
  · rw [if_pos h]
    refine (wr_out (F := F) cc0_stg8_0 Rx1 _ _ i ?_).trans ?_
    · rw [Rect.mem_set_unit]; intro H
      have : 1 ≤ ((i : S2x256x1024.Idx) 0).val ∧ _ := H 0
      omega
    · have e : i = Rx0.emb (fun | 0 => (0 : Fin 1) | 1 => i 1 | 2 => i 2) := by
        funext a; apply Fin.ext; rw [ValueKit.rect_emb_unit_val]
        match a with
        | 0 => show ((i : S2x256x1024.Idx) 0).val = 0 + 0; omega
        | 1 => show ((i : S2x256x1024.Idx) 1).val = 0 + ((i : S2x256x1024.Idx) 1).val; omega
        | 2 => show ((i : S2x256x1024.Idx) 2).val = 0 + ((i : S2x256x1024.Idx) 2).val; omega
      conv_lhs => rw [e]
      exact wr_in (F := F) cc0_stg8_0 Rx0 _ _ _
  · rw [if_neg h]
    have e : i = Rx1.emb (fun | 0 => (0 : Fin 1) | 1 => i 1 | 2 => i 2) := by
      funext a; apply Fin.ext; rw [ValueKit.rect_emb_unit_val]
      match a with
      | 0 => show ((i : S2x256x1024.Idx) 0).val = 1 + 0; omega
      | 1 => show ((i : S2x256x1024.Idx) 1).val = 0 + ((i : S2x256x1024.Idx) 1).val; omega
      | 2 => show ((i : S2x256x1024.Idx) 2).val = 0 + ((i : S2x256x1024.Idx) 2).val; omega
    conv_lhs => rw [e]
    exact wr_in (F := F) cc0_stg8_0 Rx1 _ _ _

end Cert.KernelIdeal.P

end
-- ==== Proof.Sched.lean ====
/- The protocol of the sixteen devices, as a schedule: each device's barrier cell takes one unit from each of its
   six peers, and each of its eighteen copy cells one copy. What each unit and each copy hands over is named, the
   contents in full; what each device owes at the start, and the order in which the waits stand. -/
module

public import proofs.«01_k».proof.Proof.Views
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk

@[expose] public section

set_option maxRecDepth 16384

noncomputable section

namespace Cert.KernelIdeal.P

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The protocol's own rounds algebra: six names of duties. -/
abbrev UT : Type := Rounds.URounds (GSem nD τ sig) (Fin 6)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-! ## Cells -/

abbrev barS : Sem sig := sig.barrier 0 rfl
/-- The `j`-th copy semaphore of the kernel's own: three for sending and three for receiving round the depth axis,
    six for sending and six for receiving on the ring. -/
def dS (j : Fin 18) : DmaSem sig := (⟨9 + j.val, by omega⟩ : Fin 27)
abbrev osem : Fin 18 → SemLoc sig := fun j => .dma (dS j)

abbrev barCell (c : Dev nD) : GSem nD τ sig := ((c : Thread nD τ), .reg barS)
abbrev dCell (j : Fin 18) (c : Dev nD) : GSem nD τ sig := ((c : Thread nD τ), .dma (dS j))

theorem osem_inj : Function.Injective osem := by decide
theorem osem_ne_bar (k : Fin 18) : osem k ≠ .reg barS := fun h => by cases h

/-- The units one copied row, and one copied half, counts. -/
abbrev NZ : ℕ := (sl1 : Memref sig .tc .vmem S64x1024 .bf16).view.dmaCredit
abbrev NX : ℕ := (lo A11).view.dmaCredit
theorem NZ_pos : 0 < NZ := View.dmaCredit_pos _ (by decide)
theorem NX_pos : 0 < NX := View.dmaCredit_pos _ (by decide)
def amt (j : Fin 18) : ℕ := if j.val < 6 then NZ else NX
theorem amt_pos (j : Fin 18) : 0 < amt j := by
  unfold amt; split
  · exact NZ_pos
  · exact NX_pos

/-! ## Shares: three are lent to copies in flight, one is kept to read by -/

abbrev qA : PosShare TreeShare := (fullShare : PosShare TreeShare).left
abbrev qB : PosShare TreeShare := (fullShare : PosShare TreeShare).right.left
abbrev qC : PosShare TreeShare := (fullShare : PosShare TreeShare).right.right.left
abbrev qD : PosShare TreeShare := (fullShare : PosShare TreeShare).right.right.right

variable (X : Dev nD → Inp F)

/-- Row `k` of device `c`'s gather buffer, at share `q`, holding `f`. -/
abbrev gPt (c : Dev nD) (k : ℕ) (q : PosShare TreeShare) (f : (cc0_scratch0 : Ref sig .tc).ty.Contents (Elt F)) : sProp 𝕄 :=
  A9.view.loc (c : Thread nD τ) ↦[slotSet k]{q} f
/-- Column half `h` of each of device `c`'s output buffers. -/
abbrev wPt (c : Dev nD) (h : ℕ) (q : PosShare TreeShare) (f : (cc0_scratch1 : Ref sig .tc).ty.Contents (Elt F)) : sProp 𝕄 :=
  A10.view.loc (c : Thread nD τ) ↦[halfSet h]{q} f
abbrev lPt (c : Dev nD) (h : ℕ) (q : PosShare TreeShare) (f : (cc0_scratch2 : Ref sig .tc).ty.Contents (Elt F)) : sProp 𝕄 :=
  A11.view.loc (c : Thread nD τ) ↦[halfSet h]{q} f
abbrev rPt (c : Dev nD) (h : ℕ) (q : PosShare TreeShare) (f : (cc0_scratch3 : Ref sig .tc).ty.Contents (Elt F)) : sProp 𝕄 :=
  A12.view.loc (c : Thread nD τ) ↦[halfSet h]{q} f
abbrev oPt (c : Dev nD) (h : ℕ) (q : PosShare TreeShare) (f : (cc0_scratch4 : Ref sig .tc).ty.Contents (Elt F)) : sProp 𝕄 :=
  A13.view.loc (c : Thread nD τ) ↦[halfSet h]{q} f

/-! ## What is handed over -/

/-- What payer `p` hands over with the barrier unit to its `k`-th peer: the place where that peer's copies land. -/
def barPay (k : Fin 6) (p : Dev nD) : sProp 𝕄 :=
  match k with
  | 0 => iprop((∃ f, gPt p 1 fullShare f) ∗ reached ER (dCell 3 p) 0)
  | 1 => iprop((∃ f, gPt p 2 fullShare f) ∗ reached ER (dCell 4 p) 0)
  | 2 => iprop((∃ f, gPt p 3 fullShare f) ∗ reached ER (dCell 5 p) 0)
  | 3 => iprop((∃ f, rPt p 0 fullShare f) ∗ (∃ f, rPt p 1 fullShare f) ∗ reached ER (dCell 13 p) 0 ∗ reached ER (dCell 16 p) 0)
  | 4 => iprop((∃ f, lPt p 0 fullShare f) ∗ (∃ f, lPt p 1 fullShare f) ∗ reached ER (dCell 12 p) 0 ∗ reached ER (dCell 15 p) 0)
  | ⟨_, _⟩ => iprop((∃ f, oPt p 0 fullShare f) ∗ (∃ f, oPt p 1 fullShare f) ∗ reached ER (dCell 14 p) 0 ∗ reached ER (dCell 17 p) 0)

/-- What lies in copy cell `j` of device `c` once its copy is done. -/
def dmaPay (j : Fin 18) (c : Dev nD) : sProp 𝕄 :=
  match j with
  | 0 => gPt c 0 qA (comm X c)
  | 1 => gPt c 0 qB (comm X c)
  | 2 => gPt c 0 qC (comm X c)
  | 3 => gPt c 1 fullShare (comm X c)
  | 4 => gPt c 2 fullShare (comm X c)
  | 5 => gPt c 3 fullShare (comm X c)
  | 6 => wPt c 0 qA (own X c)
  | 7 => wPt c 0 qB (own X c)
  | 8 => wPt c 0 qC (own X c)
  | 9 => wPt c 1 qA (own X c)
  | 10 => wPt c 1 qB (own X c)
  | 11 => wPt c 1 qC (own X c)
  | 12 => lPt c 0 fullShare (own X (lf c))
  | 13 => rPt c 0 fullShare (own X (rt c))
  | 14 => oPt c 0 fullShare (own X (op c))
  | 15 => lPt c 1 fullShare (own X (lf c))
  | 16 => rPt c 1 fullShare (own X (rt c))
  | ⟨_, _⟩ => oPt c 1 fullShare (own X (op c))

instance barPay_storable (k : Fin 6) (p : Dev nD) : BI.Storable (upEmb : UEmb _ 𝕄) (barPay (F := F) k p) := by
  unfold barPay; split <;> infer_instance
instance dmaPay_storable (j : Fin 18) (c : Dev nD) : BI.Storable (upEmb : UEmb _ 𝕄) (dmaPay X j c) := by
  unfold dmaPay; split <;> infer_instance

/-! ## The schedule: one round -/

/-- Which of the kernel's own copy cells a semaphore is. -/
def jOf (s : SemLoc sig) : Option (Fin 18) :=
  match s with
  | .dma s => if h : 9 ≤ s.val then some ⟨s.val - 9, by have : s.val < 27 := s.isLt; omega⟩ else none
  | .reg _ => none

theorem jOf_d (j : Fin 18) : jOf (.dma (dS j)) = some j := by revert j; decide
theorem jOf_bar : jOf (.reg barS) = none := rfl

def Rd : Rounds.Schedule (GSem nD τ sig) (Fin 6) 𝕄 where
  duties g r := if r = 0 ∧ g.1.2 = .tc then (if g.2 = .reg barS then Finset.univ else (jOf g.2).elim ∅ fun _ => {0}) else ∅
  unitless _ := False
  amount g _ _ := (jOf g.2).elim 1 amt
  payload g _ d := (jOf g.2).elim (barPay d (peer (back d) g.1.1)) fun j => dmaPay X j g.1.1
  amount_pos g _ _ _ := by
    cases jOf g.2 with
    | none => exact Nat.one_pos
    | some j => exact amt_pos j

instance Rd_payload_storable (g : GSem nD τ sig) (r : ℕ) (d : Fin 6) : BI.Storable (upEmb : UEmb _ 𝕄) ((Rd X).payload g r d) := by
  show BI.Storable upEmb ((jOf g.2).elim (barPay d (peer (back d) g.1.1)) fun j => dmaPay X j g.1.1)
  cases jOf g.2 with
  | none => exact barPay_storable _ _
  | some j => exact dmaPay_storable X _ _

section Tables

variable (c : Dev nD) (j : Fin 18)

theorem duties_bar : (Rd X).duties (barCell c) 0 = Finset.univ := by dsimp only [Rd]; rw [if_pos ⟨rfl, rfl⟩, if_pos rfl]
theorem duties_d : (Rd X).duties (dCell j c) 0 = {0} := by
  dsimp only [Rd]; rw [if_pos ⟨rfl, rfl⟩, if_neg (osem_ne_bar j), jOf_d]; rfl
theorem duties_later (g : GSem nD τ sig) : ∀ r, 1 ≤ r → (Rd X).duties g r = ∅ :=
  fun r hr => by dsimp only [Rd]; rw [if_neg (fun h => by omega)]
theorem amount_bar (d : Fin 6) : (Rd X).amount (barCell c) 0 d = 1 := rfl
theorem amount_d (d : Fin 6) : (Rd X).amount (dCell j c) 0 d = amt j := by dsimp only [Rd]; rw [jOf_d]; rfl
theorem payload_bar (d : Fin 6) : (Rd X).payload (barCell c) 0 d = barPay d (peer (back d) c) := rfl
theorem payload_d (d : Fin 6) : (Rd X).payload (dCell j c) 0 d = dmaPay X j c := by dsimp only [Rd]; rw [jOf_d]; rfl
theorem expect_bar : (Rd X).expect (barCell c) 0 = 6 := by
  unfold Schedule.expect Schedule.amountOf; rw [duties_bar, Finset.sum_congr rfl fun d _ => amount_bar X c d]; rfl
theorem expect_d : (Rd X).expect (dCell j c) 0 = amt j := by
  unfold Schedule.expect Schedule.amountOf; rw [duties_d, Finset.sum_singleton, amount_d]
theorem rest_d : bigSep ((Rd X).duties (dCell j c) 0 \ ∅) (fun u => (Rd X).payload (dCell j c) 0 u) = dmaPay X j c := by
  rw [Finset.sdiff_empty, duties_d, bigSep_singleton, payload_d]
theorem rest_bar : bigSep ((Rd X).duties (barCell c) 0 \ ∅) (fun u => (Rd X).payload (barCell c) 0 u)
    = iprop(barPay 0 (zsh 3 c) ∗ barPay 1 (zsh 2 c) ∗ barPay 2 (zsh 1 c) ∗ barPay 3 (lf c) ∗ barPay 4 (rt c) ∗ barPay 5 (op c)) := by
  rw [Finset.sdiff_empty, duties_bar]
  exact BI.bigSep_univ_eq_bigSepL [(0 : Fin 6), 1, 2, 3, 4, 5] (by decide) (by decide) _

end Tables

/-! ## What is owed, and the order of the waits -/

/-- The cell device `c`'s last signal or copy but `n` pays. -/
def due (c : Dev nD) : ℕ → GSem nD τ sig
  | 14 => barCell (zsh 1 c) | 13 => barCell (zsh 2 c) | 12 => barCell (zsh 3 c)
  | 11 => barCell (rt c) | 10 => barCell (lf c) | 9 => barCell (op c)
  | 8 => dCell 5 (zsh 1 c) | 7 => dCell 4 (zsh 2 c) | 6 => dCell 3 (zsh 3 c)
  | 5 => dCell 12 (rt c) | 4 => dCell 13 (lf c) | 3 => dCell 14 (op c)
  | 2 => dCell 15 (rt c) | 1 => dCell 16 (lf c) | _ => dCell 17 (op c)
def dueAmt (n : ℕ) : ℕ := if n < 6 then NX else if n < 9 then NZ else 1

/-- What device `c` owes with `n` signals and copies to come. -/
def owed (c : Dev nD) : ℕ → CellTallies nD τ sig Unit
  | 0 => 0
  | n + 1 => owed c n + tallyAt (due c n) () (dueAmt n)

def L (g : GSem nD τ sig) : Finset Unit := if g.1.2 = .tc then {()} else ∅
/-- Barrier cells first, then the depth axis' receiving cells, then the ring's; the rest wait for nothing. -/
def lv (g : GSem nD τ sig) (_ : Unit) : ℕ :=
  if g.2 = .reg barS then 1 else (jOf g.2).elim 0 fun j => if 12 ≤ j.val then 3 else if 3 ≤ j.val ∧ j.val < 6 then 2 else 0

theorem lv_bar (c : Dev nD) : lv (barCell c) () = 1 := if_pos rfl
theorem lv_d (j : Fin 18) (c : Dev nD) : lv (dCell j c) () = if 12 ≤ j.val then 3 else if 3 ≤ j.val ∧ j.val < 6 then 2 else 0 := by
  unfold lv; rw [if_neg (osem_ne_bar j), jOf_d]; rfl

theorem L_of_ne (g : GSem nD τ sig) (h : g.1.2 ≠ .tc) : L g = ∅ := if_neg h
theorem L_tc (c : Dev nD) (sm : SemLoc sig) : L ((c : Thread nD τ), sm) = {()} := if_pos rfl

theorem owed_pos (c : Dev nD) (n : ℕ) (g : GSem nD τ sig) (u : Unit) (h : 0 < owed c n g u) : ∃ m, m < n ∧ g = due c m := by
  induction n with
  | zero => exact absurd h (Nat.lt_irrefl 0)
  | succ n ih =>
    unfold owed at h
    rw [Pi.add_apply, Finsupp.add_apply] at h
    rcases Nat.add_pos_iff_pos_or_pos.mp h with h | h
    · obtain ⟨m, hm, e⟩ := ih h; exact ⟨m, Nat.lt_succ_of_lt hm, e⟩
    · rw [tallyAt_apply] at h
      split at h
      · next hg => exact ⟨n, Nat.lt_succ_self n, hg.1⟩
      · exact absurd h (Nat.lt_irrefl 0)

theorem due_tc (c : Dev nD) (n : ℕ) : (due c n).1.2 = .tc := by unfold due; split <;> rfl
theorem lv_due (c : Dev nD) (n : ℕ) : (n < 6 → 3 ≤ lv (due c n) ()) ∧ (n < 9 → 2 ≤ lv (due c n) ()) ∧ 1 ≤ lv (due c n) () := by
  unfold due
  split <;> (first | rw [lv_d] | rw [lv_bar]) <;>
    first
    | exact ⟨fun _ => by decide, fun _ => by decide, by decide⟩
    | exact ⟨fun h => absurd h (by decide), fun _ => by decide, by decide⟩
    | exact ⟨fun h => absurd h (by decide), fun h => absurd h (by decide), by decide⟩

/-- A wait stands before everything still owed. -/
theorem mayWait (c : Dev nD) (sm : SemLoc sig) (n : ℕ)
    (h : (n ≤ 9 ∧ lv ((c : Thread nD τ), sm) () ≤ 1) ∨ (n ≤ 6 ∧ lv ((c : Thread nD τ), sm) () ≤ 2)) :
    (levAts L lv : sProp 𝕄) ⊢ MayWait (c : Thread nD τ) sm () (owed c n) := by
  rcases h with ⟨hn, hl⟩ | ⟨hn, hl⟩
  · refine MayOwe.of_cut (L := L) (lev := lv) 1 (fun p hp => ?_) (fun g u hg => ?_) (fun p hp => ?_) (fun g u hg => ?_)
    · rw [Finset.mem_singleton.mp hp, L_tc]; exact Finset.mem_singleton_self _
    · obtain ⟨m, -, rfl⟩ := owed_pos c n g u hg
      unfold L; rw [if_pos (due_tc c m)]; exact Finset.mem_singleton_self _
    · rw [Finset.mem_singleton.mp hp]; exact hl
    · obtain ⟨m, hm, rfl⟩ := owed_pos c n g u hg
      exact (lv_due c m).2.1 (by omega)
  · refine MayOwe.of_cut (L := L) (lev := lv) 2 (fun p hp => ?_) (fun g u hg => ?_) (fun p hp => ?_) (fun g u hg => ?_)
    · rw [Finset.mem_singleton.mp hp, L_tc]; exact Finset.mem_singleton_self _
    · obtain ⟨m, -, rfl⟩ := owed_pos c n g u hg
      unfold L; rw [if_pos (due_tc c m)]; exact Finset.mem_singleton_self _
    · rw [Finset.mem_singleton.mp hp]; exact hl
    · obtain ⟨m, hm, rfl⟩ := owed_pos c n g u hg
      exact (lv_due c m).1 (by omega)

/-! ## The records every device may consult -/

def barEmb : Dev nD ↪ GSem nD τ sig := ⟨fun c => barCell c, fun _ _ h => congrArg (fun g : GSem nD τ sig => g.1.1) h⟩
def scEmb : Dev nD × Fin 18 ↪ GSem nD τ sig :=
  ⟨fun ck => dCell ck.2 ck.1, fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem d_mem (j : Fin 18) (c : Dev nD) : dCell j c ∈ (barCells ∪ scCells : Finset (GSem nD τ sig)) :=
  Finset.mem_union_right _ (Finset.mem_map_of_mem scEmb (Finset.mem_univ (c, j)))

/-- All the invariants under one map of names; the start of every barrier cell's round reached. -/
def records (κ : GSem nD τ sig → ℕ) : sProp 𝕄 :=
  iprop((bigSep (barCells ∪ scCells) fun g => cellInv ER (Rd X) (κ g) g) ∗ bigSep barCells fun g => reached ER g 0)

instance records_persistent (κ : GSem nD τ sig → ℕ) : BI.Persistent (records X κ) := by unfold records; infer_instance

theorem inv_at (κ : GSem nD τ sig → ℕ) {g : GSem nD τ sig} (hg : g ∈ (barCells ∪ scCells : Finset (GSem nD τ sig))) :
    (bigSep (barCells ∪ scCells) fun g => (cellInv ER (Rd X) (κ g) g : sProp 𝕄)) ⊢ cellInv ER (Rd X) (κ g) g :=
  BI.bigSep_elim hg
theorem reached_at (c : Dev nD) : (bigSep barCells fun g => (reached ER g 0 : sProp 𝕄)) ⊢ reached ER (barCell c) 0 :=
  BI.bigSep_elim (Finset.mem_map_of_mem barEmb (Finset.mem_univ c))

theorem rec_bar (κ : GSem nD τ sig → ℕ) (c : Dev nD) : records X κ ⊢ cellInv ER (Rd X) (κ (barCell c)) (barCell c) := by
  unfold records; iintro ⟨H, -⟩; iapply (inv_at X κ (bar_mem c)) $$ H
theorem rec_d (κ : GSem nD τ sig → ℕ) (j : Fin 18) (c : Dev nD) : records X κ ⊢ cellInv ER (Rd X) (κ (dCell j c)) (dCell j c) := by
  unfold records; iintro ⟨H, -⟩; iapply (inv_at X κ (d_mem j c)) $$ H
theorem rec_reached (κ : GSem nD τ sig → ℕ) (c : Dev nD) : records X κ ⊢ reached ER (barCell c) 0 := by
  unfold records; iintro ⟨-, H⟩; iapply (reached_at (F := F) c) $$ H

theorem close (κ : ℕ) (g : GSem nD τ sig) :
    iprop(cellInv ER (Rd X) κ g ∗ atPos ER g (0 + 1) ∅ 0) ⊢ (|={Set.univ}=> semVal g 0 : sProp 𝕄) :=
  Rounds.cell_close ER (Rd X) (Set.mem_univ κ) id (duties_later X g)

end Cert.KernelIdeal.P

end
-- ==== Proof.Rules.lean ====
/- The steps the kernel takes, each under the protocol: a load, a store, a barrier unit, the barrier wait, a copy
   to a peer, and the wait for a copy. What each needs and what it leaves. -/
module

public import proofs.«01_k».proof.Proof.Sched

@[expose] public section

set_option maxRecDepth 16384

noncomputable section

namespace Cert.KernelIdeal.P

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (X : Dev nD → Inp F) (κ : GSem nD τ sig → ℕ) (c : Dev nD)

/-- What every step may consult: the records and the order of the waits. -/
def env : sProp 𝕄 := iprop(records X κ ∗ levAts L lv)
instance env_persistent : BI.Persistent (env X κ) := by unfold env; infer_instance

/-- Device `c` has `n` signals and copies to come. -/
def Ow (n : ℕ) : sProp 𝕄 := iprop(∃ W, owes (c : Thread nD τ) (owed c n) W)

section Steps

variable {α : Type}

local notation "WP" => wp frame (wpE (defs₀ (F := F)) 𝒱₀ (c : Thread nD τ) none) Set.univ

theorem ld_rule {s : Shape} {e : EltTy} (m : Memref sig .tc .vmem s e) (r : Rect s) {hl : m.view.LoadsAt r}
    {S : Finset (Idx (m.view.loc (c : Thread nD τ)))} {q : PosShare TreeShare} {f : Buf (Elt F) (m.view.loc (c : Thread nD τ))}
    (hS : (m.access r).set ⊆ S) {k : (r.shape.Idx → Elt F e) → Prog (TpuEff nD τ sig (Elt F) Λ₀ .tc) α}
    {Q : α → sProp 𝕄} :
    (m.view.loc (c : Thread nD τ) ↦[S]{q} f : sProp 𝕄)
      ⊢ iprop(((m.view.loc (c : Thread nD τ) ↦[S]{q} f) -∗ WP (k ((m.access r).read (Elt F) f)) Q) -∗ WP (.op (.load m r hl) k) Q) :=
  by
  have h := wp_load_rect (Γ := .empty) (defs := defs₀ (F := F)) 𝒱₀ (c : Thread nD τ) none Set.univ (cs := .vmem) (m := m) (r := r) (hl := hl) (k := k) (q := q) (f := f) (Q := Q) hS
  exact h

theorem st_rule {s : Shape} {e : EltTy} (m : Memref sig .tc .vmem s e) (r : Rect s) {w : r.shape.Idx → Elt F e}
    {hx : (m.access r).Stores Finset.univ} {hm : (Finset.univ : Finset r.shape.Idx) = Finset.univ ∨ ∀ a, r.stride a = 1}
    {S : Finset (Idx (m.view.loc (c : Thread nD τ)))} {f : Buf (Elt F) (m.view.loc (c : Thread nD τ))}
    (hS : (m.access r).set ⊆ S) {k : PUnit → Prog (TpuEff nD τ sig (Elt F) Λ₀ .tc) α}
    {Q : α → sProp 𝕄} :
    (m.view.loc (c : Thread nD τ) ↦[S]{fullShare} f : sProp 𝕄)
      ⊢ iprop(((m.view.loc (c : Thread nD τ) ↦[S]{fullShare} (m.access r).write (Elt F) f w Finset.univ) -∗ WP (k ⟨⟩) Q)
          -∗ WP (.op (.store m r w Finset.univ hx hm) k) Q) :=
  by
  have h := wp_store (Γ := .empty) (defs := defs₀ (F := F)) 𝒱₀ (c : Thread nD τ) none Set.univ (cs := .vmem) (m := m) (r := r) (w := w) (Mk := Finset.univ) (hx := hx) (hm := hm) (k := k) (f := f) (Q := Q) hS
  exact h

theorem sig_rule (d : Fin 6) (n : ℕ) (t : Dev nD) (ht : t = peer d c) (hdue : due c n = barCell (peer d c)) (hamt : dueAmt n = 1)
    (w : ℤ) (hw : w = ((1 : ℕ) : ℤ)) {k : PUnit → Prog (TpuEff nD τ sig (Elt F) Λ₀ .tc) α}
    {Q : α → sProp 𝕄} :
    iprop(env X κ ∗ Ow c (n + 1) ∗ dutyTok ER (barCell (peer d c)) 0 d ∗ barPay d c)
      ⊢ iprop((Ow c n -∗ WP (k ⟨⟩) Q) -∗ WP (.op (.semSignal (Dev.tc t) barS w) k) Q) := by
  subst ht hw
  unfold Ow env
  iintro ⟨⟨#HR, -⟩, ⟨%W, HO⟩, Htok, Hpay⟩ Hk
  iapply (Rounds.wp_signal 𝒱₀ ER (Rd X) (c : Thread nD τ) none (dst := (peer d c : Thread nD τ)) (sem := barS) (r := 0) (d := d)
      (κ := κ (barCell (peer d c))) (by rw [duties_bar]; exact Finset.mem_univ _) (amount_bar X (peer d c) d) () (O₀ := owed c (n + 1)) (owed c n)
      (by show owed c n + tallyAt (due c n) () (dueAmt n) = _; rw [hdue, hamt])) $$ [HO Htok Hpay]
  · isplitr; · iapply (rec_bar X κ (peer d c)); iexact HR
    isplitl [HO]; · iexact HO
    isplitl [Htok]; · iexact Htok
    isplitl [Hpay]; · rw [payload_bar, peer_back]; iexact Hpay
    iapply (rec_reached X κ (peer d c)); iexact HR
  iintro HO
  iapply Hk
  iexists W; iexact HO

theorem barWait_rule (w : ℤ) (hw : w = ((6 : ℕ) : ℤ)) {k : PUnit → Prog (TpuEff nD τ sig (Elt F) Λ₀ .tc) α}
    {Q : α → sProp 𝕄} :
    iprop(env X κ ∗ cred (tallyAt (barCell c) () 6) ∗ Ow c 9 ∗ atPos ER (barCell c) 0 ∅ 0)
      ⊢ iprop(((Ow c 9 ∗ semVal (barCell c) 0 ∗ barPay 0 (zsh 3 c) ∗ barPay 1 (zsh 2 c) ∗ barPay 2 (zsh 1 c)
            ∗ barPay 3 (lf c) ∗ barPay 4 (rt c) ∗ barPay 5 (op c)) -∗ WP (k ⟨⟩) Q)
          -∗ WP (.op (.semWait barS w) k) Q) := by
  subst hw
  unfold Ow env
  iintro ⟨⟨#HR, #Hlev⟩, HcB, ⟨%W, HO⟩, Hat⟩ Hk
  iapply (Rounds.wp_wait_rest_token 𝒱₀ ER (Rd X) (c : Thread nD τ) none (κ := κ (barCell c))
      (wpE_semWait_eq 𝒱₀ (c : Thread nD τ) none Set.univ) (Set.mem_univ _) () (O := owed c 9) (W := W) (R := 0) (m := 0) (T := ∅)
      ((Nat.zero_add 6).trans (expect_bar X c).symm)) $$ [HcB HO Hat]
  · isplitr; · iapply (rec_bar X κ c); iexact HR
    isplitl [HcB]; · iexact HcB
    isplitl [HO]; · iexact HO
    isplitr; · iapply (mayWait (F := F) c (.reg barS) 9 (.inl ⟨le_refl _, (lv_bar c).le⟩)); iexact Hlev
    iexact Hat
  iintro ⟨HO, Hat, -, Hpay⟩
  ihave Hp := (Entails.of_eq (rest_bar X c)) $$ Hpay
  imod (close X (κ (barCell c)) (barCell c)) $$ [Hat] with Hb0
  · isplitr; · iapply (rec_bar X κ c); iexact HR
    iexact Hat
  iapply Hk
  isplitl [HO]; · iexists _; iexact HO
  isplitl [Hb0]; · iexact Hb0
  iexact Hp

theorem wait_rule (j : Fin 18) (n : ℕ) (s₀ : DmaSem sig) (hs₀ : s₀ = dS j) (P : sProp 𝕄) (hP : dmaPay X j c = P)
    (hn : n = 0 ∨ (n ≤ 6 ∧ lv (dCell j c) () ≤ 2))
    {sp sp' : Space} {s s' : Shape} {e e' : EltTy} {src : Memref sig .tc sp' s' e'} {dst : Memref sig .tc sp s e}
    {hsrc : src.view.WordExact} {hdst : dst.view.WordExact} (hN : dst.view.dmaCredit = amt j)
    {k : PUnit → Prog (TpuEff nD τ sig (Elt F) Λ₀ .tc) α}
    {Q : α → sProp 𝕄} :
    iprop(env X κ ∗ cred (tallyAt (dCell j c) () (amt j)) ∗ Ow c n ∗ atPos ER (dCell j c) 0 ∅ 0)
      ⊢ iprop(((Ow c n ∗ semVal (dCell j c) 0 ∗ P) -∗ WP (k ⟨⟩) Q)
          -∗ WP (.op (.waitDma2 s₀ src dst hsrc hdst) k) Q) := by
  subst hs₀ hP
  unfold Ow env
  iintro ⟨⟨#HR, #Hlev⟩, Hc, ⟨%W, HO⟩, Hat⟩ Hk
  rw [← hN]
  iapply (Rounds.wp_wait_rest_token 𝒱₀ ER (Rd X) (c : Thread nD τ) none (κ := κ (dCell j c))
      (wpE_waitDma2_eq 𝒱₀ (c : Thread nD τ) none Set.univ) (Set.mem_univ _) () (O := owed c n) (W := W) (R := 0) (m := 0) (T := ∅)
      ((Nat.zero_add _).trans (hN.trans (expect_d X c j).symm))) $$ [Hc HO Hat]
  · isplitr; · iapply (rec_d X κ j c); iexact HR
    isplitl [Hc]; · iexact Hc
    isplitl [HO]; · iexact HO
    isplitr
    · rcases hn with rfl | hn
      · rw [show owed c 0 = 0 from rfl, MayWait_zero]; iempintro
      · iapply (mayWait (F := F) c (.dma (dS j)) n (.inr hn)); iexact Hlev
    iexact Hat
  iintro ⟨HO, Hat, -, Hpay⟩
  ihave Hp := (Entails.of_eq (rest_d X c j)) $$ Hpay
  imod (close X (κ (dCell j c)) (dCell j c)) $$ [Hat] with Hb0
  · isplitr; · iapply (rec_d X κ j c); iexact HR
    iexact Hat
  iapply Hk
  isplitl [HO]; · iexists _; iexact HO
  isplitl [Hb0]; · iexact Hb0
  iexact Hp

theorem send_rule (jS jR : Fin 18) (n : ℕ) (t t' : Dev nD) (ht : t = t') (sS sR : DmaSem sig) (hsS : sS = dS jS) (hsR : sR = dS jR)
    {s : Shape} {e : EltTy} {src dst : Memref sig .tc .vmem s e} {q : PosShare TreeShare}
    {fs : Buf (Elt F) (src.view.loc (c : Thread nD τ))} {fd : Buf (Elt F) (dst.view.loc (t' : Thread nD τ))}
    (hdue : due c n = dCell jR t') (hamt : dueAmt n = amt jR) (hS : amt jS = amt jR) (hN : dst.view.dmaCredit = amt jR)
    (hp₁ : (src.view.loc (c : Thread nD τ) ↦[src.view.set]{q} fs) ⊢ dmaPay X jS c)
    (hp₂ : (dst.view.loc (t' : Thread nD τ) ↦[dst.view.set]{fullShare} (dst.view.write (Elt F) fd (src.view.read (Elt F) fs) Finset.univ))
      ⊢ dmaPay X jR t')
    {hsc : dst.view.ref.isScScratch = false} {hsrc : src.view.WordExact} {hdst : dst.view.WordExact}
    {hsem : DmaTarget.Typed .vmem (.dma sR) (.remote (Dev.tc t) dst (.dma sS) hsc)}
    {k : PUnit → Prog (TpuEff nD τ sig (Elt F) Λ₀ .tc) α}
    {Q : α → sProp 𝕄} :
    iprop(env X κ ∗ (src.view.loc (c : Thread nD τ) ↦[src.view.set]{q} fs) ∗ (dst.view.loc (t' : Thread nD τ) ↦[dst.view.set]{fullShare} fd)
        ∗ Ow c (n + 1) ∗ dutyTok ER (dCell jS c) 0 0 ∗ reached ER (dCell jS c) 0 ∗ dutyTok ER (dCell jR t') 0 0 ∗ reached ER (dCell jR t') 0)
      ⊢ iprop(((cred (tallyAt (dCell jS c) () (amt jS)) ∗ Ow c n) -∗ WP (k ⟨⟩) Q)
          -∗ WP (.op (.enqueueDma src (.remote (Dev.tc t) dst (.dma sS) hsc) (.dma sR) hsrc hdst hsem) k) Q) := by
  subst ht hsS hsR
  unfold Ow env
  iintro ⟨⟨#HR, -⟩, Hs, Hd, ⟨%W, HO⟩, HtS, #HrS, HtR, #HrR⟩ Hk
  iapply (Rounds.wp_send_pointsTo 𝒱₀ ER (Rd X) (c : Thread nD τ) none (c' := (t : Thread nD τ)) (src := src) (dst := dst)
      (sS := .dma (dS jS)) (sem := .dma (dS jR)) (q := q) (fs := fs) (κ₁ := κ (dCell jS c)) (κ₂ := κ (dCell jR t))
      (r₁ := 0) (r₂ := 0) (d₁ := (0 : Fin 6)) (d₂ := (0 : Fin 6)) (fd := fd)
      (by rw [duties_d]; exact Finset.mem_singleton_self _) (by rw [duties_d]; exact Finset.mem_singleton_self _)
      () () (amt jR) hN ((amount_d X c jS 0).trans hS) (amount_d X t jR 0) (O₀ := owed c (n + 1)) (owed c n)
      (by show owed c n + tallyAt (due c n) () (dueAmt n) = _; rw [hdue, hamt]) (W := W)
      (by rw [payload_d]; exact hp₁) (by rw [payload_d]; exact hp₂)) $$ [Hs Hd HO HtS HtR]
  · isplitr; · iapply (rec_d X κ jS c); iexact HR
    isplitr; · iapply (rec_d X κ jR t); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HcS]; · rw [hS]; iexact HcS
  iexists W; iexact HO

end Steps

end Cert.KernelIdeal.P

end
-- ==== Proof.Copies.lean ====
/- The nine copies a device makes, each under the protocol: what it lends, where it lands, and that what lands is
   what the receiver is due. -/
module

public import proofs.«01_k».proof.Proof.Rules

@[expose] public section

set_option maxRecDepth 16384

noncomputable section

namespace Cert.KernelIdeal.P

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Who sends to whom -/

theorem zsh_row1 (c : Dev nD) : zsh 1 (zsh 3 c) = zsh 0 c := by revert c; decide
theorem zsh_row2 (c : Dev nD) : zsh 2 (zsh 2 c) = zsh 0 c := by revert c; decide
theorem zsh_row3 (c : Dev nD) : zsh 3 (zsh 1 c) = zsh 0 c := by revert c; decide
theorem lf_rt (c : Dev nD) : lf (rt c) = c := by revert c; decide
theorem rt_lf (c : Dev nD) : rt (lf c) = c := by revert c; decide
theorem op_op (c : Dev nD) : op (op c) = c := by revert c; decide

/-! ## The semaphores the program names -/

theorem zsend0 : (((cc0_scratch5).slice (Rect.unit (s := S3) ![0] S1.size inb_S3_S1_0)).squeeze S_ squeezes_S1_S_).sem = dS 0 := rfl
theorem zsend1 : (((cc0_scratch5).slice (Rect.unit (s := S3) ![1] S1.size inb_S3_S1_1)).squeeze S_ squeezes_S1_S_).sem = dS 1 := rfl
theorem zsend2 : (((cc0_scratch5).slice (Rect.unit (s := S3) ![2] S1.size inb_S3_S1_2)).squeeze S_ squeezes_S1_S_).sem = dS 2 := rfl
theorem zrecv0 : (((cc0_scratch6).slice (Rect.unit (s := S3) ![0] S1.size inb_S3_S1_0)).squeeze S_ squeezes_S1_S_).sem = dS 3 := rfl
theorem zrecv1 : (((cc0_scratch6).slice (Rect.unit (s := S3) ![1] S1.size inb_S3_S1_1)).squeeze S_ squeezes_S1_S_).sem = dS 4 := rfl
theorem zrecv2 : (((cc0_scratch6).slice (Rect.unit (s := S3) ![2] S1.size inb_S3_S1_2)).squeeze S_ squeezes_S1_S_).sem = dS 5 := rfl
theorem xsend0 : (((cc0_scratch7).slice (Rect.unit (s := S6) ![0] S1.size inb_S6_S1_0)).squeeze S_ squeezes_S1_S_).sem = dS 6 := rfl
theorem xsend1 : (((cc0_scratch7).slice (Rect.unit (s := S6) ![1] S1.size inb_S6_S1_1)).squeeze S_ squeezes_S1_S_).sem = dS 7 := rfl
theorem xsend2 : (((cc0_scratch7).slice (Rect.unit (s := S6) ![2] S1.size inb_S6_S1_2)).squeeze S_ squeezes_S1_S_).sem = dS 8 := rfl
theorem xsend3 : (((cc0_scratch7).slice (Rect.unit (s := S6) ![3] S1.size inb_S6_S1_3)).squeeze S_ squeezes_S1_S_).sem = dS 9 := rfl
theorem xsend4 : (((cc0_scratch7).slice (Rect.unit (s := S6) ![4] S1.size inb_S6_S1_4)).squeeze S_ squeezes_S1_S_).sem = dS 10 := rfl
theorem xsend5 : (((cc0_scratch7).slice (Rect.unit (s := S6) ![5] S1.size inb_S6_S1_5)).squeeze S_ squeezes_S1_S_).sem = dS 11 := rfl
theorem xrecv0 : (((cc0_scratch8).slice (Rect.unit (s := S6) ![0] S1.size inb_S6_S1_0)).squeeze S_ squeezes_S1_S_).sem = dS 12 := rfl
theorem xrecv1 : (((cc0_scratch8).slice (Rect.unit (s := S6) ![1] S1.size inb_S6_S1_1)).squeeze S_ squeezes_S1_S_).sem = dS 13 := rfl
theorem xrecv2 : (((cc0_scratch8).slice (Rect.unit (s := S6) ![2] S1.size inb_S6_S1_2)).squeeze S_ squeezes_S1_S_).sem = dS 14 := rfl
theorem xrecv3 : (((cc0_scratch8).slice (Rect.unit (s := S6) ![3] S1.size inb_S6_S1_3)).squeeze S_ squeezes_S1_S_).sem = dS 15 := rfl
theorem xrecv4 : (((cc0_scratch8).slice (Rect.unit (s := S6) ![4] S1.size inb_S6_S1_4)).squeeze S_ squeezes_S1_S_).sem = dS 16 := rfl
theorem xrecv5 : (((cc0_scratch8).slice (Rect.unit (s := S6) ![5] S1.size inb_S6_S1_5)).squeeze S_ squeezes_S1_S_).sem = dS 17 := rfl

/-! ## Halves that land, and shares -/

theorem land_lo11 (fd : (cc0_scratch2 : Ref sig .tc).ty.Contents (Elt F)) (fs : (cc0_scratch1 : Ref sig .tc).ty.Contents (Elt F))
    (i : S512x256.Idx) (hm : i ∈ halfSet 0) :
    (lo A11).view.write (Elt F) fd ((lo A10).view.read (Elt F) fs) Finset.univ i = fs i := by
  rw [← rh_set 0 0 rfl (inb_S512x256_S512x128_0_0)] at hm
  obtain ⟨j, rfl⟩ := mem_emb _ i hm
  exact wr_in cc0_scratch2 Rh0 fd _ j

theorem land_hi11 (fd : (cc0_scratch2 : Ref sig .tc).ty.Contents (Elt F)) (fs : (cc0_scratch1 : Ref sig .tc).ty.Contents (Elt F))
    (i : S512x256.Idx) (hm : i ∈ halfSet 1) :
    (hi A11).view.write (Elt F) fd ((hi A10).view.read (Elt F) fs) Finset.univ i = fs i := by
  rw [← rh_set 1 128 rfl (inb_S512x256_S512x128_0_128)] at hm
  obtain ⟨j, rfl⟩ := mem_emb _ i hm
  exact wr_in cc0_scratch2 Rh1 fd _ j

theorem land_lo12 (fd : (cc0_scratch3 : Ref sig .tc).ty.Contents (Elt F)) (fs : (cc0_scratch1 : Ref sig .tc).ty.Contents (Elt F))
    (i : S512x256.Idx) (hm : i ∈ halfSet 0) :
    (lo A12).view.write (Elt F) fd ((lo A10).view.read (Elt F) fs) Finset.univ i = fs i := by
  rw [← rh_set 0 0 rfl (inb_S512x256_S512x128_0_0)] at hm
  obtain ⟨j, rfl⟩ := mem_emb _ i hm
  exact wr_in cc0_scratch3 Rh0 fd _ j

theorem land_hi12 (fd : (cc0_scratch3 : Ref sig .tc).ty.Contents (Elt F)) (fs : (cc0_scratch1 : Ref sig .tc).ty.Contents (Elt F))
    (i : S512x256.Idx) (hm : i ∈ halfSet 1) :
    (hi A12).view.write (Elt F) fd ((hi A10).view.read (Elt F) fs) Finset.univ i = fs i := by
  rw [← rh_set 1 128 rfl (inb_S512x256_S512x128_0_128)] at hm
  obtain ⟨j, rfl⟩ := mem_emb _ i hm
  exact wr_in cc0_scratch3 Rh1 fd _ j

theorem land_lo13 (fd : (cc0_scratch4 : Ref sig .tc).ty.Contents (Elt F)) (fs : (cc0_scratch1 : Ref sig .tc).ty.Contents (Elt F))
    (i : S512x256.Idx) (hm : i ∈ halfSet 0) :
    (lo A13).view.write (Elt F) fd ((lo A10).view.read (Elt F) fs) Finset.univ i = fs i := by
  rw [← rh_set 0 0 rfl (inb_S512x256_S512x128_0_0)] at hm
  obtain ⟨j, rfl⟩ := mem_emb _ i hm
  exact wr_in cc0_scratch4 Rh0 fd _ j

theorem land_hi13 (fd : (cc0_scratch4 : Ref sig .tc).ty.Contents (Elt F)) (fs : (cc0_scratch1 : Ref sig .tc).ty.Contents (Elt F))
    (i : S512x256.Idx) (hm : i ∈ halfSet 1) :
    (hi A13).view.write (Elt F) fd ((hi A10).view.read (Elt F) fs) Finset.univ i = fs i := by
  rw [← rh_set 1 128 rfl (inb_S512x256_S512x128_0_128)] at hm
  obtain ⟨j, rfl⟩ := mem_emb _ i hm
  exact wr_in cc0_scratch4 Rh1 fd _ j

theorem share4 {ℓ : Loc nD τ sig} (S : Finset (Idx ℓ)) (f : Buf (Elt F) ℓ) :
    (ℓ ↦[S]{fullShare} f : sProp 𝕄) ⊢ iprop((ℓ ↦[S]{qA} f) ∗ (ℓ ↦[S]{qB} f) ∗ (ℓ ↦[S]{qC} f) ∗ (ℓ ↦[S]{qD} f)) :=
  (pointsTo_share (PosShare.mem_left_op_right _)).1.trans (sep_mono_right ((pointsTo_share (PosShare.mem_left_op_right _)).1.trans
    (sep_mono_right (pointsTo_share (PosShare.mem_left_op_right _)).1)))
theorem share4_join {ℓ : Loc nD τ sig} (S : Finset (Idx ℓ)) (f : Buf (Elt F) ℓ) :
    iprop((ℓ ↦[S]{qA} f) ∗ (ℓ ↦[S]{qB} f) ∗ (ℓ ↦[S]{qC} f) ∗ (ℓ ↦[S]{qD} f)) ⊢ (ℓ ↦[S]{fullShare} f : sProp 𝕄) :=
  (sep_mono_right ((sep_mono_right (pointsTo_share (PosShare.mem_left_op_right _)).2).trans
    (pointsTo_share (PosShare.mem_left_op_right _)).2)).trans (pointsTo_share (PosShare.mem_left_op_right _)).2

variable (X : Dev nD → Inp F) (κ : GSem nD τ sig → ℕ) (c : Dev nD)

section Steps

variable {α : Type}

local notation "WP" => wp frame (wpE (defs₀ (F := F)) 𝒱₀ (c : Thread nD τ) none) Set.univ

theorem sendZ1 (t : Dev nD) (ht : t = zsh 1 c) {hsc : (sl3).view.ref.isScScratch = false}
    {hsrc : (sl0).view.WordExact} {hdst : (sl3).view.WordExact}
    {hsem : DmaTarget.Typed .vmem (.dma (dS 5)) (.remote (Dev.tc t) (sl3) (.dma (dS 0)) hsc)}
    {k : PUnit → Prog (TpuEff nD τ sig (Elt F) Λ₀ .tc) α} {Q : α → sProp 𝕄} :
    iprop(env X κ ∗ gPt c 0 qA (comm X c) ∗ (∃ f, gPt (zsh 1 c) 3 fullShare f) ∗ Ow c 9 ∗ dutyTok ER (dCell 0 c) 0 0 ∗ reached ER (dCell 0 c) 0
        ∗ dutyTok ER (dCell 5 (zsh 1 c)) 0 0 ∗ reached ER (dCell 5 (zsh 1 c)) 0)
      ⊢ iprop(((cred (tallyAt (dCell 0 c) () (amt 0)) ∗ Ow c 8) -∗ WP (k ⟨⟩) Q)
          -∗ WP (.op (.enqueueDma (sl0) (.remote (Dev.tc t) (sl3) (.dma (dS 0)) hsc) (.dma (dS 5)) hsrc hdst hsem) k) Q) := by
  iintro ⟨#HE, Hs, ⟨%fd, Hd⟩, HO, H1, H2, H3, H4⟩ Hk
  iapply (send_rule X κ c 0 5 8 t (zsh 1 c) ht (dS 0) (dS 5) rfl rfl (src := sl0) (dst := sl3) (fs := comm X c) (fd := fd)
      rfl rfl rfl rfl (by rw [sl0_set]; exact BI.BIBase.Entails.rfl)
      (by
        rw [sl3_set]
        exact BIBase.Entails.of_eq (pointsTo_congr fun i hm => land_slot 3 inb_S4x64x1024_S1x64x1024_3_0_0 X c (zsh 1 c) (zsh_row3 c) fd i hm))) $$ [Hs Hd HO H1 H2 H3 H4]
  · isplitr; · iexact HE
    isplitl [Hs]; · rw [sl0_set]; iexact Hs
    isplitl [Hd]; · rw [sl3_set]; iexact Hd
    isplitl [HO]; · iexact HO
    isplitl [H1]; · iexact H1
    isplitl [H2]; · iexact H2
    isplitl [H3]; · iexact H3
    iexact H4
  iexact Hk

theorem sendZ2 (t : Dev nD) (ht : t = zsh 2 c) {hsc : (sl2).view.ref.isScScratch = false}
    {hsrc : (sl0).view.WordExact} {hdst : (sl2).view.WordExact}
    {hsem : DmaTarget.Typed .vmem (.dma (dS 4)) (.remote (Dev.tc t) (sl2) (.dma (dS 1)) hsc)}
    {k : PUnit → Prog (TpuEff nD τ sig (Elt F) Λ₀ .tc) α} {Q : α → sProp 𝕄} :
    iprop(env X κ ∗ gPt c 0 qB (comm X c) ∗ (∃ f, gPt (zsh 2 c) 2 fullShare f) ∗ Ow c 8 ∗ dutyTok ER (dCell 1 c) 0 0 ∗ reached ER (dCell 1 c) 0
        ∗ dutyTok ER (dCell 4 (zsh 2 c)) 0 0 ∗ reached ER (dCell 4 (zsh 2 c)) 0)
      ⊢ iprop(((cred (tallyAt (dCell 1 c) () (amt 1)) ∗ Ow c 7) -∗ WP (k ⟨⟩) Q)
          -∗ WP (.op (.enqueueDma (sl0) (.remote (Dev.tc t) (sl2) (.dma (dS 1)) hsc) (.dma (dS 4)) hsrc hdst hsem) k) Q) := by
  iintro ⟨#HE, Hs, ⟨%fd, Hd⟩, HO, H1, H2, H3, H4⟩ Hk
  iapply (send_rule X κ c 1 4 7 t (zsh 2 c) ht (dS 1) (dS 4) rfl rfl (src := sl0) (dst := sl2) (fs := comm X c) (fd := fd)
      rfl rfl rfl rfl (by rw [sl0_set]; exact BI.BIBase.Entails.rfl)
      (by
        rw [sl2_set]
        exact BIBase.Entails.of_eq (pointsTo_congr fun i hm => land_slot 2 inb_S4x64x1024_S1x64x1024_2_0_0 X c (zsh 2 c) (zsh_row2 c) fd i hm))) $$ [Hs Hd HO H1 H2 H3 H4]
  · isplitr; · iexact HE
    isplitl [Hs]; · rw [sl0_set]; iexact Hs
    isplitl [Hd]; · rw [sl2_set]; iexact Hd
    isplitl [HO]; · iexact HO
    isplitl [H1]; · iexact H1
    isplitl [H2]; · iexact H2
    isplitl [H3]; · iexact H3
    iexact H4
  iexact Hk

theorem sendZ3 (t : Dev nD) (ht : t = zsh 3 c) {hsc : (sl1).view.ref.isScScratch = false}
    {hsrc : (sl0).view.WordExact} {hdst : (sl1).view.WordExact}
    {hsem : DmaTarget.Typed .vmem (.dma (dS 3)) (.remote (Dev.tc t) (sl1) (.dma (dS 2)) hsc)}
    {k : PUnit → Prog (TpuEff nD τ sig (Elt F) Λ₀ .tc) α} {Q : α → sProp 𝕄} :
    iprop(env X κ ∗ gPt c 0 qC (comm X c) ∗ (∃ f, gPt (zsh 3 c) 1 fullShare f) ∗ Ow c 7 ∗ dutyTok ER (dCell 2 c) 0 0 ∗ reached ER (dCell 2 c) 0
        ∗ dutyTok ER (dCell 3 (zsh 3 c)) 0 0 ∗ reached ER (dCell 3 (zsh 3 c)) 0)
      ⊢ iprop(((cred (tallyAt (dCell 2 c) () (amt 2)) ∗ Ow c 6) -∗ WP (k ⟨⟩) Q)
          -∗ WP (.op (.enqueueDma (sl0) (.remote (Dev.tc t) (sl1) (.dma (dS 2)) hsc) (.dma (dS 3)) hsrc hdst hsem) k) Q) := by
  iintro ⟨#HE, Hs, ⟨%fd, Hd⟩, HO, H1, H2, H3, H4⟩ Hk
  iapply (send_rule X κ c 2 3 6 t (zsh 3 c) ht (dS 2) (dS 3) rfl rfl (src := sl0) (dst := sl1) (fs := comm X c) (fd := fd)
      rfl rfl rfl rfl (by rw [sl0_set]; exact BI.BIBase.Entails.rfl)
      (by
        rw [sl1_set]
        exact BIBase.Entails.of_eq (pointsTo_congr fun i hm => land_slot 1 inb_S4x64x1024_S1x64x1024_1_0_0 X c (zsh 3 c) (zsh_row1 c) fd i hm))) $$ [Hs Hd HO H1 H2 H3 H4]
  · isplitr; · iexact HE
    isplitl [Hs]; · rw [sl0_set]; iexact Hs
    isplitl [Hd]; · rw [sl1_set]; iexact Hd
    isplitl [HO]; · iexact HO
    isplitl [H1]; · iexact H1
    isplitl [H2]; · iexact H2
    isplitl [H3]; · iexact H3
    iexact H4
  iexact Hk

theorem sendX00 (t : Dev nD) (ht : t = rt c) {hsc : (lo A11).view.ref.isScScratch = false}
    {hsrc : (lo A10).view.WordExact} {hdst : (lo A11).view.WordExact}
    {hsem : DmaTarget.Typed .vmem (.dma (dS 12)) (.remote (Dev.tc t) (lo A11) (.dma (dS 6)) hsc)}
    {k : PUnit → Prog (TpuEff nD τ sig (Elt F) Λ₀ .tc) α} {Q : α → sProp 𝕄} :
    iprop(env X κ ∗ wPt c 0 qA (own X c) ∗ (∃ f, lPt (rt c) 0 fullShare f) ∗ Ow c 6 ∗ dutyTok ER (dCell 6 c) 0 0 ∗ reached ER (dCell 6 c) 0
        ∗ dutyTok ER (dCell 12 (rt c)) 0 0 ∗ reached ER (dCell 12 (rt c)) 0)
      ⊢ iprop(((cred (tallyAt (dCell 6 c) () (amt 6)) ∗ Ow c 5) -∗ WP (k ⟨⟩) Q)
          -∗ WP (.op (.enqueueDma (lo A10) (.remote (Dev.tc t) (lo A11) (.dma (dS 6)) hsc) (.dma (dS 12)) hsrc hdst hsem) k) Q) := by
  iintro ⟨#HE, Hs, ⟨%fd, Hd⟩, HO, H1, H2, H3, H4⟩ Hk
  iapply (send_rule X κ c 6 12 5 t (rt c) ht (dS 6) (dS 12) rfl rfl (src := lo A10) (dst := lo A11) (fs := own X c) (fd := fd)
      rfl rfl rfl rfl (by rw [lo10_set]; exact BI.BIBase.Entails.rfl)
      (by
        rw [lo11_set]
        exact BIBase.Entails.of_eq (pointsTo_congr fun i hm => (land_lo11 fd (own X c) i hm).trans (by rw [lf_rt])))) $$ [Hs Hd HO H1 H2 H3 H4]
  · isplitr; · iexact HE
    isplitl [Hs]; · rw [lo10_set]; iexact Hs
    isplitl [Hd]; · rw [lo11_set]; iexact Hd
    isplitl [HO]; · iexact HO
    isplitl [H1]; · iexact H1
    isplitl [H2]; · iexact H2
    isplitl [H3]; · iexact H3
    iexact H4
  iexact Hk

theorem sendX01 (t : Dev nD) (ht : t = lf c) {hsc : (lo A12).view.ref.isScScratch = false}
    {hsrc : (lo A10).view.WordExact} {hdst : (lo A12).view.WordExact}
    {hsem : DmaTarget.Typed .vmem (.dma (dS 13)) (.remote (Dev.tc t) (lo A12) (.dma (dS 7)) hsc)}
    {k : PUnit → Prog (TpuEff nD τ sig (Elt F) Λ₀ .tc) α} {Q : α → sProp 𝕄} :
    iprop(env X κ ∗ wPt c 0 qB (own X c) ∗ (∃ f, rPt (lf c) 0 fullShare f) ∗ Ow c 5 ∗ dutyTok ER (dCell 7 c) 0 0 ∗ reached ER (dCell 7 c) 0
        ∗ dutyTok ER (dCell 13 (lf c)) 0 0 ∗ reached ER (dCell 13 (lf c)) 0)
      ⊢ iprop(((cred (tallyAt (dCell 7 c) () (amt 7)) ∗ Ow c 4) -∗ WP (k ⟨⟩) Q)
          -∗ WP (.op (.enqueueDma (lo A10) (.remote (Dev.tc t) (lo A12) (.dma (dS 7)) hsc) (.dma (dS 13)) hsrc hdst hsem) k) Q) := by
  iintro ⟨#HE, Hs, ⟨%fd, Hd⟩, HO, H1, H2, H3, H4⟩ Hk
  iapply (send_rule X κ c 7 13 4 t (lf c) ht (dS 7) (dS 13) rfl rfl (src := lo A10) (dst := lo A12) (fs := own X c) (fd := fd)
      rfl rfl rfl rfl (by rw [lo10_set]; exact BI.BIBase.Entails.rfl)
      (by
        rw [lo12_set]
        exact BIBase.Entails.of_eq (pointsTo_congr fun i hm => (land_lo12 fd (own X c) i hm).trans (by rw [rt_lf])))) $$ [Hs Hd HO H1 H2 H3 H4]
  · isplitr; · iexact HE
    isplitl [Hs]; · rw [lo10_set]; iexact Hs
    isplitl [Hd]; · rw [lo12_set]; iexact Hd
    isplitl [HO]; · iexact HO
    isplitl [H1]; · iexact H1
    isplitl [H2]; · iexact H2
    isplitl [H3]; · iexact H3
    iexact H4
  iexact Hk

theorem sendX02 (t : Dev nD) (ht : t = op c) {hsc : (lo A13).view.ref.isScScratch = false}
    {hsrc : (lo A10).view.WordExact} {hdst : (lo A13).view.WordExact}
    {hsem : DmaTarget.Typed .vmem (.dma (dS 14)) (.remote (Dev.tc t) (lo A13) (.dma (dS 8)) hsc)}
    {k : PUnit → Prog (TpuEff nD τ sig (Elt F) Λ₀ .tc) α} {Q : α → sProp 𝕄} :
    iprop(env X κ ∗ wPt c 0 qC (own X c) ∗ (∃ f, oPt (op c) 0 fullShare f) ∗ Ow c 4 ∗ dutyTok ER (dCell 8 c) 0 0 ∗ reached ER (dCell 8 c) 0
        ∗ dutyTok ER (dCell 14 (op c)) 0 0 ∗ reached ER (dCell 14 (op c)) 0)
      ⊢ iprop(((cred (tallyAt (dCell 8 c) () (amt 8)) ∗ Ow c 3) -∗ WP (k ⟨⟩) Q)
          -∗ WP (.op (.enqueueDma (lo A10) (.remote (Dev.tc t) (lo A13) (.dma (dS 8)) hsc) (.dma (dS 14)) hsrc hdst hsem) k) Q) := by
  iintro ⟨#HE, Hs, ⟨%fd, Hd⟩, HO, H1, H2, H3, H4⟩ Hk
  iapply (send_rule X κ c 8 14 3 t (op c) ht (dS 8) (dS 14) rfl rfl (src := lo A10) (dst := lo A13) (fs := own X c) (fd := fd)
      rfl rfl rfl rfl (by rw [lo10_set]; exact BI.BIBase.Entails.rfl)
      (by
        rw [lo13_set]
        exact BIBase.Entails.of_eq (pointsTo_congr fun i hm => (land_lo13 fd (own X c) i hm).trans (by rw [op_op])))) $$ [Hs Hd HO H1 H2 H3 H4]
  · isplitr; · iexact HE
    isplitl [Hs]; · rw [lo10_set]; iexact Hs
    isplitl [Hd]; · rw [lo13_set]; iexact Hd
    isplitl [HO]; · iexact HO
    isplitl [H1]; · iexact H1
    isplitl [H2]; · iexact H2
    isplitl [H3]; · iexact H3
    iexact H4
  iexact Hk

theorem sendX10 (t : Dev nD) (ht : t = rt c) {hsc : (hi A11).view.ref.isScScratch = false}
    {hsrc : (hi A10).view.WordExact} {hdst : (hi A11).view.WordExact}
    {hsem : DmaTarget.Typed .vmem (.dma (dS 15)) (.remote (Dev.tc t) (hi A11) (.dma (dS 9)) hsc)}
    {k : PUnit → Prog (TpuEff nD τ sig (Elt F) Λ₀ .tc) α} {Q : α → sProp 𝕄} :
    iprop(env X κ ∗ wPt c 1 qA (own X c) ∗ (∃ f, lPt (rt c) 1 fullShare f) ∗ Ow c 3 ∗ dutyTok ER (dCell 9 c) 0 0 ∗ reached ER (dCell 9 c) 0
        ∗ dutyTok ER (dCell 15 (rt c)) 0 0 ∗ reached ER (dCell 15 (rt c)) 0)
      ⊢ iprop(((cred (tallyAt (dCell 9 c) () (amt 9)) ∗ Ow c 2) -∗ WP (k ⟨⟩) Q)
          -∗ WP (.op (.enqueueDma (hi A10) (.remote (Dev.tc t) (hi A11) (.dma (dS 9)) hsc) (.dma (dS 15)) hsrc hdst hsem) k) Q) := by
  iintro ⟨#HE, Hs, ⟨%fd, Hd⟩, HO, H1, H2, H3, H4⟩ Hk
  iapply (send_rule X κ c 9 15 2 t (rt c) ht (dS 9) (dS 15) rfl rfl (src := hi A10) (dst := hi A11) (fs := own X c) (fd := fd)
      rfl rfl rfl rfl (by rw [hi10_set]; exact BI.BIBase.Entails.rfl)
      (by
        rw [hi11_set]
        exact BIBase.Entails.of_eq (pointsTo_congr fun i hm => (land_hi11 fd (own X c) i hm).trans (by rw [lf_rt])))) $$ [Hs Hd HO H1 H2 H3 H4]
  · isplitr; · iexact HE
    isplitl [Hs]; · rw [hi10_set]; iexact Hs
    isplitl [Hd]; · rw [hi11_set]; iexact Hd
    isplitl [HO]; · iexact HO
    isplitl [H1]; · iexact H1
    isplitl [H2]; · iexact H2
    isplitl [H3]; · iexact H3
    iexact H4
  iexact Hk

theorem sendX11 (t : Dev nD) (ht : t = lf c) {hsc : (hi A12).view.ref.isScScratch = false}
    {hsrc : (hi A10).view.WordExact} {hdst : (hi A12).view.WordExact}
    {hsem : DmaTarget.Typed .vmem (.dma (dS 16)) (.remote (Dev.tc t) (hi A12) (.dma (dS 10)) hsc)}
    {k : PUnit → Prog (TpuEff nD τ sig (Elt F) Λ₀ .tc) α} {Q : α → sProp 𝕄} :
    iprop(env X κ ∗ wPt c 1 qB (own X c) ∗ (∃ f, rPt (lf c) 1 fullShare f) ∗ Ow c 2 ∗ dutyTok ER (dCell 10 c) 0 0 ∗ reached ER (dCell 10 c) 0
        ∗ dutyTok ER (dCell 16 (lf c)) 0 0 ∗ reached ER (dCell 16 (lf c)) 0)
      ⊢ iprop(((cred (tallyAt (dCell 10 c) () (amt 10)) ∗ Ow c 1) -∗ WP (k ⟨⟩) Q)
          -∗ WP (.op (.enqueueDma (hi A10) (.remote (Dev.tc t) (hi A12) (.dma (dS 10)) hsc) (.dma (dS 16)) hsrc hdst hsem) k) Q) := by
  iintro ⟨#HE, Hs, ⟨%fd, Hd⟩, HO, H1, H2, H3, H4⟩ Hk
  iapply (send_rule X κ c 10 16 1 t (lf c) ht (dS 10) (dS 16) rfl rfl (src := hi A10) (dst := hi A12) (fs := own X c) (fd := fd)
      rfl rfl rfl rfl (by rw [hi10_set]; exact BI.BIBase.Entails.rfl)
      (by
        rw [hi12_set]
        exact BIBase.Entails.of_eq (pointsTo_congr fun i hm => (land_hi12 fd (own X c) i hm).trans (by rw [rt_lf])))) $$ [Hs Hd HO H1 H2 H3 H4]
  · isplitr; · iexact HE
    isplitl [Hs]; · rw [hi10_set]; iexact Hs
    isplitl [Hd]; · rw [hi12_set]; iexact Hd
    isplitl [HO]; · iexact HO
    isplitl [H1]; · iexact H1
    isplitl [H2]; · iexact H2
    isplitl [H3]; · iexact H3
    iexact H4
  iexact Hk

theorem sendX12 (t : Dev nD) (ht : t = op c) {hsc : (hi A13).view.ref.isScScratch = false}
    {hsrc : (hi A10).view.WordExact} {hdst : (hi A13).view.WordExact}
    {hsem : DmaTarget.Typed .vmem (.dma (dS 17)) (.remote (Dev.tc t) (hi A13) (.dma (dS 11)) hsc)}
    {k : PUnit → Prog (TpuEff nD τ sig (Elt F) Λ₀ .tc) α} {Q : α → sProp 𝕄} :
    iprop(env X κ ∗ wPt c 1 qC (own X c) ∗ (∃ f, oPt (op c) 1 fullShare f) ∗ Ow c 1 ∗ dutyTok ER (dCell 11 c) 0 0 ∗ reached ER (dCell 11 c) 0
        ∗ dutyTok ER (dCell 17 (op c)) 0 0 ∗ reached ER (dCell 17 (op c)) 0)
      ⊢ iprop(((cred (tallyAt (dCell 11 c) () (amt 11)) ∗ Ow c 0) -∗ WP (k ⟨⟩) Q)
          -∗ WP (.op (.enqueueDma (hi A10) (.remote (Dev.tc t) (hi A13) (.dma (dS 11)) hsc) (.dma (dS 17)) hsrc hdst hsem) k) Q) := by
  iintro ⟨#HE, Hs, ⟨%fd, Hd⟩, HO, H1, H2, H3, H4⟩ Hk
  iapply (send_rule X κ c 11 17 0 t (op c) ht (dS 11) (dS 17) rfl rfl (src := hi A10) (dst := hi A13) (fs := own X c) (fd := fd)
      rfl rfl rfl rfl (by rw [hi10_set]; exact BI.BIBase.Entails.rfl)
      (by
        rw [hi13_set]
        exact BIBase.Entails.of_eq (pointsTo_congr fun i hm => (land_hi13 fd (own X c) i hm).trans (by rw [op_op])))) $$ [Hs Hd HO H1 H2 H3 H4]
  · isplitr; · iexact HE
    isplitl [Hs]; · rw [hi10_set]; iexact Hs
    isplitl [Hd]; · rw [hi13_set]; iexact Hd
    isplitl [HO]; · iexact HO
    isplitl [H1]; · iexact H1
    isplitl [H2]; · iexact H2
    isplitl [H3]; · iexact H3
    iexact H4
  iexact Hk

end Steps

end Cert.KernelIdeal.P

end
-- ==== Proof.RunA.lean ====
/- The first stretch of the run: the device reads its place, signals its six peers, packs the block it sends, waits for
   the six, and sends the block to the other devices of the depth axis. -/
module

public import proofs.«01_k».proof.Proof.Copies

@[expose] public section

set_option maxRecDepth 16384

noncomputable section

namespace Cert.KernelIdeal.P

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Inp F) (κ : GSem nD τ sig → ℕ) (c : Dev nD)

theorem bar_sem : (SemArray.scalar barS : Sems sig S_).sem = barS := rfl

/-- Input buffer 0 of device `c`, whole. -/
abbrev i0 : sProp 𝕄 := A0.view.loc (c : Thread nD τ) ↦[Finset.univ]{fullShare} (X c).x
/-- Input buffer 1 of device `c`, whole. -/
abbrev i1 : sProp 𝕄 := A1.view.loc (c : Thread nD τ) ↦[Finset.univ]{fullShare} (X c).wdkv
/-- Input buffer 2 of device `c`, whole. -/
abbrev i2 : sProp 𝕄 := A2.view.loc (c : Thread nD τ) ↦[Finset.univ]{fullShare} (X c).wuk
/-- Input buffer 3 of device `c`, whole. -/
abbrev i3 : sProp 𝕄 := A3.view.loc (c : Thread nD τ) ↦[Finset.univ]{fullShare} (X c).wuv
/-- Input buffer 4 of device `c`, whole. -/
abbrev i4 : sProp 𝕄 := A4.view.loc (c : Thread nD τ) ↦[Finset.univ]{fullShare} (X c).wq
/-- Input buffer 5 of device `c`, whole. -/
abbrev i5 : sProp 𝕄 := A5.view.loc (c : Thread nD τ) ↦[Finset.univ]{fullShare} (X c).wqr
/-- Input buffer 6 of device `c`, whole. -/
abbrev i6 : sProp 𝕄 := A6.view.loc (c : Thread nD τ) ↦[Finset.univ]{fullShare} (X c).wkr
/-- Input buffer 7 of device `c`, whole. -/
abbrev i7 : sProp 𝕄 := A7.view.loc (c : Thread nD τ) ↦[Finset.univ]{fullShare} (X c).wo

theorem part1_run {Q : (Σ' (d0 : Dev nD) (v2 : BitVec 32) (v5 : BitVec 32) (v8 : BitVec 32) (v11 : BitVec 32) (v14 : BitVec 32) (v16 : BitVec 32) (v18 : BitVec 32) (v35 : BitVec 32), BitVec 32) → sProp 𝕄} :
    iprop((emp) ∗ (∀ w2, ∀ w5, ∀ w8, ∀ w11, ∀ w14, ∀ w16, ∀ w18, ∀ w35, ∀ w36, (emp) -∗ Q ⟨c, w2, w5, w8, w11, w14, w16, w18, w35, w36⟩))
      ⊢ wp frame (wpE (defs₀ (F := F)) 𝒱₀ (c : Thread nD τ) none) Set.univ (k0_part1 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 ) Q := by
  rw [k0_part1_eq_skeleton]; unfold k0_part1_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  rw [wp_deviceId]
  rw [wp_ret]
  iintro ⟨-, Hk⟩
  imodintro
  iapply Hk
  iempintro

theorem part2_run (v2 v5 v8 v16 v35 v36 : BitVec 32) {Q : (Σ' (v37 : BitVec 32) (v54 : BitVec 32) (v56 : BitVec 32) (v60 : BitVec 32) (v62 : BitVec 32) (v63 : BitVec 32) (v64 : BitVec 32) (v65 : Sems sig S_), BitVec 32) → sProp 𝕄} :
    iprop((env X κ ∗ Ow c 15 ∗ dutyTok ER (barCell (peer 0 c)) 0 0 ∗ barPay 0 c) ∗ (∀ w37, ∀ w54, ∀ w56, ∀ w60, ∀ w62, ∀ w63, ∀ w64, ∀ w72, (Ow c 14) -∗ Q ⟨w37, w54, w56, w60, w62, w63, w64, SemArray.scalar barS, w72⟩))
      ⊢ wp frame (wpE (defs₀ (F := F)) 𝒱₀ (c : Thread nD τ) none) Set.univ (k0_part2 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (c) v2 v5 v8 v16 v35 v36) Q := by
  rw [k0_part2_eq_skeleton]; unfold k0_part2_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  iintro ⟨⟨#HE, HO, Ht0, Hp0⟩, Hk⟩
  iapply (sig_rule X κ c 0 14 _ (dev1_eq c) rfl rfl _ rfl) $$ [HO Ht0 Hp0]
  · isplitr; · iexact HE
    isplitl [HO]; · iexact HO
    isplitl [Ht0]; · iexact Ht0
    iexact Hp0
  iintro HO
  rw [wp_ret]; imodintro
  iapply Hk
  iexact HO

theorem part3_run (v2 v5 v8 v35 v37 v54 v56 v60 v62 v63 v64 v72 : BitVec 32) {Q : (PUnit) → sProp 𝕄} :
    iprop((env X κ ∗ Ow c 14 ∗ (dutyTok ER (barCell (peer 1 c)) 0 1 ∗ barPay 1 c) ∗ (dutyTok ER (barCell (peer 2 c)) 0 2 ∗ barPay 2 c) ∗ (dutyTok ER (barCell (peer 3 c)) 0 3 ∗ barPay 3 c) ∗ (dutyTok ER (barCell (peer 4 c)) 0 4 ∗ barPay 4 c) ∗ (dutyTok ER (barCell (peer 5 c)) 0 5 ∗ barPay 5 c)) ∗ ((Ow c 9) -∗ Q ⟨⟩))
      ⊢ wp frame (wpE (defs₀ (F := F)) 𝒱₀ (c : Thread nD τ) none) Set.univ (k0_part3 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (c) v2 v5 v8 v35 v37 v54 v56 v60 v62 v63 v64 (SemArray.scalar barS) v72) Q := by
  rw [k0_part3_eq_skeleton]; unfold k0_part3_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  iintro ⟨⟨#HE, HO, ⟨Ht1, Hp1⟩, ⟨Ht2, Hp2⟩, ⟨Ht3, Hp3⟩, ⟨Ht4, Hp4⟩, ⟨Ht5, Hp5⟩⟩, Hk⟩
  iapply (sig_rule X κ c 1 13 _ (dev2_eq c) rfl rfl _ rfl) $$ [HO Ht1 Hp1]
  · isplitr; · iexact HE
    isplitl [HO]; · iexact HO
    isplitl [Ht1]; · iexact Ht1
    iexact Hp1
  iintro HO
  iapply (sig_rule X κ c 2 12 _ (dev3_eq c) rfl rfl _ rfl) $$ [HO Ht2 Hp2]
  · isplitr; · iexact HE
    isplitl [HO]; · iexact HO
    isplitl [Ht2]; · iexact Ht2
    iexact Hp2
  iintro HO
  iapply (sig_rule X κ c 3 11 _ (dev4_eq c) rfl rfl _ rfl) $$ [HO Ht3 Hp3]
  · isplitr; · iexact HE
    isplitl [HO]; · iexact HO
    isplitl [Ht3]; · iexact Ht3
    iexact Hp3
  iintro HO
  iapply (sig_rule X κ c 4 10 _ (dev5_eq c) rfl rfl _ rfl) $$ [HO Ht4 Hp4]
  · isplitr; · iexact HE
    isplitl [HO]; · iexact HO
    isplitl [Ht4]; · iexact Ht4
    iexact Hp4
  iintro HO
  iapply (sig_rule X κ c 5 9 _ (dev6_eq c) rfl rfl _ rfl) $$ [HO Ht5 Hp5]
  · isplitr; · iexact HE
    isplitl [HO]; · iexact HO
    isplitl [Ht5]; · iexact Ht5
    iexact Hp5
  iintro HO
  rw [wp_ret]; imodintro
  iapply Hk
  iexact HO

theorem part4_run (v2 v8 : BitVec 32) {Q : (Σ' (v106 : FVec F S512x1024 .bf16) (v110 : FVec F S64x512 .bf16) (v112 : FVec F S64x256 .bf16) (v114 : FVec F S64x256 .bf16) (v125 : BitVec 32) (v127 : BitVec 32), BitVec 32) → sProp 𝕄} :
    iprop((env X κ ∗ i0 X c ∗ i1 X c ∗ i2 X c ∗ i3 X c ∗ (∃ f, gPt c 0 fullShare f) ∗ cred (tallyAt (barCell c) () 6) ∗ Ow c 9 ∗ atPos ER (barCell c) 0 ∅ 0) ∗ (∀ w125, ∀ w127, ∀ w4, (i0 X c ∗ i1 X c ∗ i2 X c ∗ i3 X c ∗ gPt c 0 fullShare (comm X c) ∗ Ow c 9 ∗ semVal (barCell c) 0 ∗ barPay 0 (zsh 3 c) ∗ barPay 1 (zsh 2 c) ∗ barPay 2 (zsh 1 c) ∗ barPay 3 (lf c) ∗ barPay 4 (rt c) ∗ barPay 5 (op c)) -∗ Q ⟨V106 (X c), V110 (X c), V112 (X c), V114 (X c), w125, w127, w4⟩))
      ⊢ wp frame (wpE (defs₀ (F := F)) 𝒱₀ (c : Thread nD τ) none) Set.univ (k0_part4 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 v2 v8 (SemArray.scalar barS)) Q := by
  rw [k0_part4_eq_skeleton]; unfold k0_part4_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  unfold V106 V110 V112 V114 V102 V104 V107 V111 V113
  iintro ⟨⟨#HE, H0, H1, H2, H3, ⟨%f, Hg⟩, Hc, HO, Hat⟩, Hk⟩
  iapply (ld_rule c A0 Rx0 (S := Finset.univ) (q := fullShare) (f := (X c).x) (Finset.subset_univ _)) $$ H0
  iintro H0
  iapply (ld_rule c A0 Rx1 (S := Finset.univ) (q := fullShare) (f := (X c).x) (Finset.subset_univ _)) $$ H0
  iintro H0
  iapply (ld_rule c A1 (Rect.unit (s := S1024x64) ![0, 0] S1024x64.size inb_S1024x64_S1024x64_0_0) (S := Finset.univ) (q := fullShare) (f := (X c).wdkv) (Finset.subset_univ _)) $$ H1
  iintro H1
  iapply (ld_rule c A2 (Rect.unit (s := S64x256) ![0, 0] S64x256.size inb_S64x256_S64x256_0_0) (S := Finset.univ) (q := fullShare) (f := (X c).wuk) (Finset.subset_univ _)) $$ H2
  iintro H2
  iapply (ld_rule c A3 (Rect.unit (s := S64x256) ![0, 0] S64x256.size inb_S64x256_S64x256_0_0) (S := Finset.univ) (q := fullShare) (f := (X c).wuv) (Finset.subset_univ _)) $$ H3
  iintro H3
  iapply (ld_rule c A9 Rp5 (S := slotSet 0) (q := fullShare) (f := _) (rp_sub 0 512 _)) $$ Hg
  iintro Hg
  iapply (st_rule c A9 Rp5 (S := slotSet 0) (f := _) (rp_sub 0 512 _)) $$ Hg
  iintro Hg
  iapply (ld_rule c A9 Rp6 (S := slotSet 0) (q := fullShare) (f := _) (rp_sub 512 256 _)) $$ Hg
  iintro Hg
  iapply (st_rule c A9 Rp6 (S := slotSet 0) (f := _) (rp_sub 512 256 _)) $$ Hg
  iintro Hg
  iapply (ld_rule c A9 Rp7 (S := slotSet 0) (q := fullShare) (f := _) (rp_sub 768 256 _)) $$ Hg
  iintro Hg
  iapply (st_rule c A9 Rp7 (S := slotSet 0) (f := _) (rp_sub 768 256 _)) $$ Hg
  iintro Hg
  iapply (barWait_rule X κ c _ rfl) $$ [Hc HO Hat]
  · isplitr; · iexact HE
    isplitl [Hc]; · iexact Hc
    isplitl [HO]; · iexact HO
    iexact Hat
  iintro ⟨HO, Hb, Hpay⟩
  rw [wp_ret]; imodintro
  iapply Hk
  isplitl [H0]; · iexact H0
  isplitl [H1]; · iexact H1
  isplitl [H2]; · iexact H2
  isplitl [H3]; · iexact H3
  isplitl [Hg]
  · iapply (Entails.of_eq (pointsTo_congr (packed X c f))); iexact Hg
  isplitl [HO]; · iexact HO
  isplitl [Hb]; · iexact Hb
  iexact Hpay

theorem part5_run (v2 v5 v8 v125 v127 c4_i32_87 : BitVec 32) {Q : (Σ' (v157 : BitVec 32) (v158 : BitVec 32), BitVec 32) → sProp 𝕄} :
    iprop((env X κ ∗ Ow c 9 ∗ (gPt c 0 qA (comm X c) ∗ (∃ f, gPt (zsh 1 c) 3 fullShare f) ∗ dutyTok ER (dCell 0 c) 0 0 ∗ reached ER (dCell 0 c) 0 ∗ dutyTok ER (dCell 5 (zsh 1 c)) 0 0 ∗ reached ER (dCell 5 (zsh 1 c)) 0) ∗ (gPt c 0 qB (comm X c) ∗ (∃ f, gPt (zsh 2 c) 2 fullShare f) ∗ dutyTok ER (dCell 1 c) 0 0 ∗ reached ER (dCell 1 c) 0 ∗ dutyTok ER (dCell 4 (zsh 2 c)) 0 0 ∗ reached ER (dCell 4 (zsh 2 c)) 0)) ∗ (∀ w157, ∀ w158, ∀ w0, (Ow c 7 ∗ cred (tallyAt (dCell 0 c) () (amt 0)) ∗ cred (tallyAt (dCell 1 c) () (amt 1))) -∗ Q ⟨w157, w158, w0⟩))
      ⊢ wp frame (wpE (defs₀ (F := F)) 𝒱₀ (c : Thread nD τ) none) Set.univ (k0_part5 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (c) v2 v5 v8 v125 v127 c4_i32_87) Q := by
  rw [k0_part5_eq_skeleton]; unfold k0_part5_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  iintro ⟨⟨#HE, HO, ⟨Hs1, Hd1, Ha1, Hb1, Hc1, He1⟩, ⟨Hs2, Hd2, Ha2, Hb2, Hc2, He2⟩⟩, Hk⟩
  iapply (sendZ1 X κ c _ (dev7_eq c)) $$ [Hs1 Hd1 HO Ha1 Hb1 Hc1 He1]
  · isplitr; · iexact HE
    isplitl [Hs1]; · iexact Hs1
    isplitl [Hd1]; · iexact Hd1
    isplitl [HO]; · iexact HO
    isplitl [Ha1]; · iexact Ha1
    isplitl [Hb1]; · iexact Hb1
    isplitl [Hc1]; · iexact Hc1
    iexact He1
  iintro ⟨Hf1, HO⟩
  iapply (sendZ2 X κ c _ (dev8_eq c)) $$ [Hs2 Hd2 HO Ha2 Hb2 Hc2 He2]
  · isplitr; · iexact HE
    isplitl [Hs2]; · iexact Hs2
    isplitl [Hd2]; · iexact Hd2
    isplitl [HO]; · iexact HO
    isplitl [Ha2]; · iexact Ha2
    isplitl [Hb2]; · iexact Hb2
    isplitl [Hc2]; · iexact Hc2
    iexact He2
  iintro ⟨Hf2, HO⟩
  rw [wp_ret]; imodintro
  iapply Hk
  isplitl [HO]; · iexact HO
  isplitl [Hf1]; · iexact Hf1
  iexact Hf2

theorem part6_run (v5 v157 v158 c0_i32_114 : BitVec 32) {Q : (Σ' (v172 : FVec F S512x256 .f32) (v173 : FVec F S512x256 .f32) (v177 : FVec F S512x256 .bf16) (v181 : FVec F S512x128 .bf16) (v188 : FVec F S256x256 .f32) (v190 : FVec F S256x256 .f32) (v192 : FVec F S256x256 .f32) (v194 : FVec F S256x256 .f32) (v195 : FVec F S256x32 .bf16), FVec F S256x32 .bf16) → sProp 𝕄} :
    iprop((env X κ ∗ Ow c 7 ∗ i4 X c ∗ i5 X c ∗ i6 X c ∗ (gPt c 0 qC (comm X c) ∗ (∃ f, gPt (zsh 3 c) 1 fullShare f) ∗ dutyTok ER (dCell 2 c) 0 0 ∗ reached ER (dCell 2 c) 0 ∗ dutyTok ER (dCell 3 (zsh 3 c)) 0 0 ∗ reached ER (dCell 3 (zsh 3 c)) 0)) ∗ ((Ow c 6 ∗ i4 X c ∗ i5 X c ∗ i6 X c ∗ cred (tallyAt (dCell 2 c) () (amt 2))) -∗ Q ⟨V172 (X c), V173 (X c), V177 (X c), V181 (X c), V188 (X c), V190 (X c), V192 (X c), V194 (X c), V195 (X c), V196 (X c)⟩))
      ⊢ wp frame (wpE (defs₀ (F := F)) 𝒱₀ (c : Thread nD τ) none) Set.univ (k0_part6 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (c) v5 (V106 (X c)) (V110 (X c)) (V112 (X c)) (V114 (X c)) v157 v158 c0_i32_114) Q := by
  rw [k0_part6_eq_skeleton]; unfold k0_part6_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  unfold V172 V173 V177 V181 V188 V190 V192 V194 V195 V196 V174 V178 V182
  iintro ⟨⟨#HE, HO, H4, H5, H6, ⟨Hs3, Hd3, Ha3, Hb3, Hc3, He3⟩⟩, Hk⟩
  iapply (sendZ3 X κ c _ (dev9_eq c)) $$ [Hs3 Hd3 HO Ha3 Hb3 Hc3 He3]
  · isplitr; · iexact HE
    isplitl [Hs3]; · iexact Hs3
    isplitl [Hd3]; · iexact Hd3
    isplitl [HO]; · iexact HO
    isplitl [Ha3]; · iexact Ha3
    isplitl [Hb3]; · iexact Hb3
    isplitl [Hc3]; · iexact Hc3
    iexact He3
  iintro ⟨Hf3, HO⟩
  iapply (ld_rule c A4 (Rect.unit (s := S1024x256) ![0, 0] S1024x256.size inb_S1024x256_S1024x256_0_0) (S := Finset.univ) (q := fullShare) (f := (X c).wq) (Finset.subset_univ _)) $$ H4
  iintro H4
  iapply (ld_rule c A5 (Rect.unit (s := S1024x128) ![0, 0] S1024x128.size inb_S1024x128_S1024x128_0_0) (S := Finset.univ) (q := fullShare) (f := (X c).wqr) (Finset.subset_univ _)) $$ H5
  iintro H5
  iapply (ld_rule c A6 (Rect.unit (s := S1024x32) ![0, 0] S1024x32.size inb_S1024x32_S1024x32_0_0) (S := Finset.univ) (q := fullShare) (f := (X c).wkr) (Finset.subset_univ _)) $$ H6
  iintro H6
  rw [wp_ret]; imodintro
  iapply Hk
  isplitl [HO]; · iexact HO
  isplitl [H4]; · iexact H4
  isplitl [H5]; · iexact H5
  isplitl [H6]; · iexact H6
  iexact Hf3

end Cert.KernelIdeal.P

end
-- ==== Proof.RunB.lean ====
/- The second stretch of the run: the blocks of the depth axis arrive, the attention outputs are computed block by
   block, and each half of them goes to the ring as soon as it is whole. -/
module

public import proofs.«01_k».proof.Proof.RunA

@[expose] public section

set_option maxRecDepth 16384

noncomputable section

namespace Cert.KernelIdeal.P

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Inp F) (κ : GSem nD τ sig → ℕ) (c : Dev nD)

theorem rc_sub (k : ℕ) (inb) :
    ((A9.access (Rect.unit (s := S4x64x1024) ![k, 0, 0] S1x64x1024.size inb)).set : Finset S4x64x1024.Idx) ⊆ slotSet k :=
  ((View.set_slice_whole _ _).trans (rc_set k inb)).subset

theorem lv_zrecv (j : Fin 18) (hj : j.val < 6) : lv (dCell j c) () ≤ 2 := by
  rw [lv_d]; split
  · omega
  · split <;> omega

/-- Column half `hh` of the output buffer, in which the listed blocks hold what they are to hold. -/
def hold (hh : ℕ) (done : List (ℕ × ℕ)) : sProp 𝕄 :=
  iprop(∃ g, ⌜∀ p ∈ done, Has X c p.1 p.2 g⌝ ∗ wPt c hh fullShare g)

theorem hold_start (hh : ℕ) : (iprop(∃ g, wPt c hh fullShare g) : sProp 𝕄) ⊢ hold X c hh [] := by
  unfold hold
  iintro ⟨%g, H⟩
  iexists g
  isplitr
  · ipureintro; exact fun p hp => absurd hp (List.not_mem_nil)
  iexact H

theorem hold_whole (hh : ℕ) (done : List (ℕ × ℕ)) (h00 : (0, 2 * hh) ∈ done) (h10 : (1, 2 * hh) ∈ done) (h01 : (0, 2 * hh + 1) ∈ done)
    (h11 : (1, 2 * hh + 1) ∈ done) : hold X c hh done ⊢ wPt c hh fullShare (own X c) := by
  unfold hold
  iintro ⟨%g, %hg, H⟩
  iapply (Entails.of_eq (pointsTo_congr (has_half X c hh g (hg _ h00) (hg _ h10) (hg _ h01) (hg _ h11)))); iexact H

section Block

variable {α : Type}

/-- One block of the outputs is read and then overwritten. -/
theorem blk_rule (b h hh p q : ℕ) (done : List (ℕ × ℕ)) (hp : p = 256 * b) (hq : q = 64 * h) (hh' : q = 128 * hh ∨ q = 128 * hh + 64)
    (hne : (b, h) ∉ done) (inb) {w : FVec F S256x64 .bf16} (hw : w = oBlk X c b h) {hl} {hx} {hm}
    {k : PUnit → Prog (TpuEff nD τ sig (Elt F) Λ₀ .tc) α} {Q : α → sProp 𝕄} :
    hold X c hh done
      ⊢ iprop((hold X c hh ((b, h) :: done) -∗ wp frame (wpE (defs₀ (F := F)) 𝒱₀ (c : Thread nD τ) none) Set.univ (k ⟨⟩) Q)
          -∗ wp frame (wpE (defs₀ (F := F)) 𝒱₀ (c : Thread nD τ) none) Set.univ (.op (.load A10 (Rect.unit (s := S512x256) ![p, q] S256x64.size inb).toLoadRect hl) fun _ =>
              .op (.store A10 (Rect.unit (s := S512x256) ![p, q] S256x64.size inb) w Finset.univ hx hm) k) Q) := by
  conv => lhs; unfold hold
  iintro ⟨%g, %hg, H⟩ Hk
  iapply (ld_rule c A10 (Rect.unit (s := S512x256) ![p, q] S256x64.size inb) (S := halfSet hh) (q := fullShare) (f := g) (rq_sub p q hh hh' inb)) $$ H
  iintro H
  iapply (st_rule c A10 (Rect.unit (s := S512x256) ![p, q] S256x64.size inb) (S := halfSet hh) (f := g) (rq_sub p q hh hh' inb)) $$ H
  iintro H
  iapply Hk
  unfold hold
  iexists _
  isplitr
  rotate_left
  · iexact H
  ipureintro
  intro x hx
  rcases List.mem_cons.mp hx with rfl | hx
  · exact has_new X c b h p q hp hq inb g w hw
  · exact has_old X c x.1 x.2 p q b h hp hq (fun e => hne (by rw [← e.1, ← e.2]; exact hx)) inb g w (hg x hx)

end Block

theorem part7_run (v2 v5 v8 : BitVec 32) {Q : (Σ' (v197 : FVec F S256x256 .f32) (v199 : FVec F S256x256 .f32) (v201 : FVec F S256x256 .f32) (v203 : FVec F S256x256 .f32) (v223 : FVec F S512x256 .f32) (v224 : FVec F S512x256 .f32) (v226 : BitVec 32), BitVec 32) → sProp 𝕄} :
    iprop((env X κ ∗ Ow c 6 ∗ (cred (tallyAt (dCell 3 c) () (amt 3)) ∗ atPos ER (dCell 3 c) 0 ∅ 0)) ∗ (∀ w226, ∀ w227, (Ow c 6 ∗ semVal (dCell 3 c) 0 ∗ gPt c 1 fullShare (comm X c)) -∗ Q ⟨V197 (X c), V199 (X c), V201 (X c), V203 (X c), V223 X c, V224 X c, w226, w227⟩))
      ⊢ wp frame (wpE (defs₀ (F := F)) 𝒱₀ (c : Thread nD τ) none) Set.univ (k0_part7 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 v2 v5 v8 (V172 (X c)) (V173 (X c)) (V181 (X c)) (V195 (X c)) (V196 (X c))) Q := by
  rw [k0_part7_eq_skeleton]; unfold k0_part7_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  unfold V197 V199 V201 V203 V223 V224 V216
  iintro ⟨⟨#HE, HO, ⟨Hc3, Ha3⟩⟩, Hk⟩
  iapply (wait_rule X κ c 3 6 _ rfl (gPt c 1 fullShare (comm X c)) rfl (.inr ⟨le_refl _, lv_zrecv c 3 (by decide)⟩) (dst := sl1) rfl) $$ [Hc3 HO Ha3]
  · isplitr; · iexact HE
    isplitl [Hc3]; · iexact Hc3
    isplitl [HO]; · iexact HO
    iexact Ha3
  iintro ⟨HO, Hv3, Hg⟩
  iapply (ld_rule c A9 Rc1 (S := slotSet 1) (q := fullShare) (f := comm X c) (rc_sub 1 _)) $$ Hg
  iintro Hg
  rw [wp_ret]; imodintro
  iapply Hk
  isplitl [HO]; · iexact HO
  isplitl [Hv3]; · iexact Hv3
  iexact Hg

theorem part8_run (v2 v5 v8 v226 v227 : BitVec 32) {Q : (Σ' (v244 : FVec F S512x256 .f32) (v245 : FVec F S512x256 .f32) (v259 : FVec F S64x1024 .bf16), FVec F S64x512 .bf16) → sProp 𝕄} :
    iprop((env X κ ∗ Ow c 6 ∗ (cred (tallyAt (dCell 4 c) () (amt 4)) ∗ atPos ER (dCell 4 c) 0 ∅ 0) ∗ (cred (tallyAt (dCell 5 c) () (amt 5)) ∗ atPos ER (dCell 5 c) 0 ∅ 0)) ∗ ((Ow c 6 ∗ semVal (dCell 4 c) 0 ∗ gPt c 2 fullShare (comm X c) ∗ semVal (dCell 5 c) 0 ∗ gPt c 3 fullShare (comm X c)) -∗ Q ⟨V244 X c, V245 X c, V259 X c, V260 X c⟩))
      ⊢ wp frame (wpE (defs₀ (F := F)) 𝒱₀ (c : Thread nD τ) none) Set.univ (k0_part8 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 v2 v5 v8 (V223 X c) (V224 X c) v226 v227) Q := by
  rw [k0_part8_eq_skeleton]; unfold k0_part8_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  unfold V244 V245 V259 V260 V237 V258
  iintro ⟨⟨#HE, HO, ⟨Hc4, Ha4⟩, ⟨Hc5, Ha5⟩⟩, Hk⟩
  iapply (wait_rule X κ c 4 6 _ rfl (gPt c 2 fullShare (comm X c)) rfl (.inr ⟨le_refl _, lv_zrecv c 4 (by decide)⟩) (dst := sl2) rfl) $$ [Hc4 HO Ha4]
  · isplitr; · iexact HE
    isplitl [Hc4]; · iexact Hc4
    isplitl [HO]; · iexact HO
    iexact Ha4
  iintro ⟨HO, Hv4, Hg⟩
  iapply (ld_rule c A9 Rc2 (S := slotSet 2) (q := fullShare) (f := comm X c) (rc_sub 2 _)) $$ Hg
  iintro Hg
  iapply (wait_rule X κ c 5 6 _ rfl (gPt c 3 fullShare (comm X c)) rfl (.inr ⟨le_refl _, lv_zrecv c 5 (by decide)⟩) (dst := sl3) rfl) $$ [Hc5 HO Ha5]
  · isplitr; · iexact HE
    isplitl [Hc5]; · iexact Hc5
    isplitl [HO]; · iexact HO
    iexact Ha5
  iintro ⟨HO, Hv5, Hh⟩
  iapply (ld_rule c A9 Rc3 (S := slotSet 3) (q := fullShare) (f := comm X c) (rc_sub 3 _)) $$ Hh
  iintro Hh
  rw [wp_ret]; imodintro
  iapply Hk
  isplitl [HO]; · iexact HO
  isplitl [Hv4]; · iexact Hv4
  isplitl [Hg]; · iexact Hg
  isplitl [Hv5]; · iexact Hv5
  iexact Hh

theorem part9_run (v2 v5 : BitVec 32) {Q : (Σ' (v267 : FVec F S512x256 .bf16) (v268 : FVec F S512x256 .bf16) (v269 : BitVec 32) (v270 : BitVec 32) (v295 : FVec F S256x64 .bf16), FVec F S256x256 .f32) → sProp 𝕄} :
    iprop((hold X c 0 []) ∗ (∀ w269, ∀ w270, (hold X c 0 [(0, 0)]) -∗ Q ⟨V267 X c, V268 X c, w269, w270, V295 X c, V304 X c⟩))
      ⊢ wp frame (wpE (defs₀ (F := F)) 𝒱₀ (c : Thread nD τ) none) Set.univ (k0_part9 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 v2 v5 (V177 (X c)) (V188 (X c)) (V197 (X c)) (V244 X c) (V245 X c) (V259 X c) (V260 X c)) Q := by
  rw [k0_part9_eq_skeleton]; unfold k0_part9_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  unfold V267 V268 V295 V304
  iintro ⟨Hw, Hk⟩
  iapply (blk_rule X c 0 0 0 0 0 [] rfl rfl (by decide) (by decide) _ rfl) $$ Hw
  iintro Hw
  rw [wp_ret]; imodintro
  iapply Hk
  iexact Hw

theorem part10_run {Q : (Σ' (v339 : FVec F S256x64 .bf16), FVec F S256x256 .f32) → sProp 𝕄} :
    iprop((hold X c 0 [(0, 0)]) ∗ ((hold X c 0 [(0, 1), (1, 0), (0, 0)]) -∗ Q ⟨V339 X c, V348 X c⟩))
      ⊢ wp frame (wpE (defs₀ (F := F)) 𝒱₀ (c : Thread nD τ) none) Set.univ (k0_part10 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (V177 (X c)) (V190 (X c)) (V199 (X c)) (V267 X c) (V268 X c) (V295 X c) (V304 X c)) Q := by
  rw [k0_part10_eq_skeleton]; unfold k0_part10_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  unfold V339 V348
  iintro ⟨Hw, Hk⟩
  iapply (blk_rule X c 1 0 0 256 0 [(0, 0)] rfl rfl (by decide) (by decide) _ rfl) $$ Hw
  iintro Hw
  iapply (blk_rule X c 0 1 0 0 64 [(1, 0), (0, 0)] rfl rfl (by decide) (by decide) _ rfl) $$ Hw
  iintro Hw
  rw [wp_ret]; imodintro
  iapply Hk
  iexact Hw

theorem part11_run (v8 v35 v37 v54 v56 : BitVec 32) {Q : (PUnit) → sProp 𝕄} :
    iprop((env X κ ∗ Ow c 6 ∗ hold X c 0 [(0, 1), (1, 0), (0, 0)] ∗ ((∃ f, lPt (rt c) 0 fullShare f) ∗ dutyTok ER (dCell 6 c) 0 0 ∗ reached ER (dCell 6 c) 0 ∗ dutyTok ER (dCell 12 (rt c)) 0 0 ∗ reached ER (dCell 12 (rt c)) 0) ∗ ((∃ f, rPt (lf c) 0 fullShare f) ∗ dutyTok ER (dCell 7 c) 0 0 ∗ reached ER (dCell 7 c) 0 ∗ dutyTok ER (dCell 13 (lf c)) 0 0 ∗ reached ER (dCell 13 (lf c)) 0)) ∗ ((Ow c 4 ∗ cred (tallyAt (dCell 6 c) () (amt 6)) ∗ cred (tallyAt (dCell 7 c) () (amt 7)) ∗ wPt c 0 qC (own X c) ∗ wPt c 0 qD (own X c)) -∗ Q ⟨⟩))
      ⊢ wp frame (wpE (defs₀ (F := F)) 𝒱₀ (c : Thread nD τ) none) Set.univ (k0_part11 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (c) v8 v35 v37 v54 v56 (V339 X c) (V348 X c)) Q := by
  rw [k0_part11_eq_skeleton]; unfold k0_part11_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  iintro ⟨⟨#HE, HO, Hw, ⟨Hd0, Hx0, Hy0, Hz0, Ht0⟩, ⟨Hd1, Hx1, Hy1, Hz1, Ht1⟩⟩, Hk⟩
  iapply (blk_rule X c 1 1 0 256 64 [(0, 1), (1, 0), (0, 0)] rfl rfl (by decide) (by decide) _ rfl) $$ Hw
  iintro Hw
  ihave Hw := (hold_whole X c 0 [(1, 1), (0, 1), (1, 0), (0, 0)] (by decide) (by decide) (by decide) (by decide)) $$ Hw
  ihave Hw := (share4 (ℓ := A10.view.loc (c : Thread nD τ)) (halfSet 0) (own X c)) $$ Hw
  icases Hw with ⟨Hs0, Hs1, Hs2, Hs3⟩
  iapply (sendX00 X κ c _ (dev10_eq c)) $$ [Hs0 Hd0 HO Hx0 Hy0 Hz0 Ht0]
  · isplitr; · iexact HE
    isplitl [Hs0]; · iexact Hs0
    isplitl [Hd0]; · iexact Hd0
    isplitl [HO]; · iexact HO
    isplitl [Hx0]; · iexact Hx0
    isplitl [Hy0]; · iexact Hy0
    isplitl [Hz0]; · iexact Hz0
    iexact Ht0
  iintro ⟨Hf0, HO⟩
  iapply (sendX01 X κ c _ (dev11_eq c)) $$ [Hs1 Hd1 HO Hx1 Hy1 Hz1 Ht1]
  · isplitr; · iexact HE
    isplitl [Hs1]; · iexact Hs1
    isplitl [Hd1]; · iexact Hd1
    isplitl [HO]; · iexact HO
    isplitl [Hx1]; · iexact Hx1
    isplitl [Hy1]; · iexact Hy1
    isplitl [Hz1]; · iexact Hz1
    iexact Ht1
  iintro ⟨Hf1, HO⟩
  rw [wp_ret]; imodintro
  iapply Hk
  isplitl [HO]; · iexact HO
  isplitl [Hf0]; · iexact Hf0
  isplitl [Hf1]; · iexact Hf1
  isplitl [Hs2]; · iexact Hs2
  iexact Hs3

theorem part12_run (v8 v269 v270 : BitVec 32) {Q : (Σ' (v419 : FVec F S256x64 .bf16) (v421 : FVec F S256x256 .f32), F .f32) → sProp 𝕄} :
    iprop((env X κ ∗ Ow c 4 ∗ hold X c 1 [] ∗ (wPt c 0 qC (own X c) ∗ (∃ f, oPt (op c) 0 fullShare f) ∗ dutyTok ER (dCell 8 c) 0 0 ∗ reached ER (dCell 8 c) 0 ∗ dutyTok ER (dCell 14 (op c)) 0 0 ∗ reached ER (dCell 14 (op c)) 0)) ∗ ((Ow c 3 ∗ cred (tallyAt (dCell 8 c) () (amt 8)) ∗ hold X c 1 [(0, 2)]) -∗ Q ⟨V419 X c, V421 X c, Scalar.ofBits .f32 0x3DD105EC#32⟩))
      ⊢ wp frame (wpE (defs₀ (F := F)) 𝒱₀ (c : Thread nD τ) none) Set.univ (k0_part12 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (c) v8 (V177 (X c)) (V192 (X c)) (V201 (X c)) (V267 X c) (V268 X c) v269 v270) Q := by
  rw [k0_part12_eq_skeleton]; unfold k0_part12_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  unfold V419 V421
  iintro ⟨⟨#HE, HO, Hw, ⟨Hs2, Hd2, Hx2, Hy2, Hz2, Ht2⟩⟩, Hk⟩
  iapply (sendX02 X κ c _ (dev12_eq c)) $$ [Hs2 Hd2 HO Hx2 Hy2 Hz2 Ht2]
  · isplitr; · iexact HE
    isplitl [Hs2]; · iexact Hs2
    isplitl [Hd2]; · iexact Hd2
    isplitl [HO]; · iexact HO
    isplitl [Hx2]; · iexact Hx2
    isplitl [Hy2]; · iexact Hy2
    isplitl [Hz2]; · iexact Hz2
    iexact Ht2
  iintro ⟨Hf2, HO⟩
  iapply (blk_rule X c 0 2 1 0 128 [] rfl rfl (by decide) (by decide) _ rfl) $$ Hw
  iintro Hw
  rw [wp_ret]; imodintro
  iapply Hk
  isplitl [HO]; · iexact HO
  isplitl [Hf2]; · iexact Hf2
  iexact Hw

theorem part13_run {Q : (Σ' (v463 : FVec F S256x64 .bf16) (v465 : FVec F S256x256 .f32), F .f32) → sProp 𝕄} :
    iprop((hold X c 1 [(0, 2)]) ∗ ((hold X c 1 [(0, 3), (1, 2), (0, 2)]) -∗ Q ⟨V463 X c, V465 X c, Scalar.ofBits .f32 0x3DD105EC#32⟩))
      ⊢ wp frame (wpE (defs₀ (F := F)) 𝒱₀ (c : Thread nD τ) none) Set.univ (k0_part13 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (V177 (X c)) (V194 (X c)) (V203 (X c)) (V267 X c) (V268 X c) (V419 X c) (V421 X c) (Scalar.ofBits .f32 0x3DD105EC#32)) Q := by
  rw [k0_part13_eq_skeleton]; unfold k0_part13_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  unfold V463 V465
  iintro ⟨Hw, Hk⟩
  iapply (blk_rule X c 1 2 1 256 128 [(0, 2)] rfl rfl (by decide) (by decide) _ rfl) $$ Hw
  iintro Hw
  iapply (blk_rule X c 0 3 1 0 192 [(1, 2), (0, 2)] rfl rfl (by decide) (by decide) _ rfl) $$ Hw
  iintro Hw
  rw [wp_ret]; imodintro
  iapply Hk
  iexact Hw

theorem part14_run (v8 v35 v37 v54 v56 : BitVec 32) {Q : (PUnit) → sProp 𝕄} :
    iprop((env X κ ∗ Ow c 3 ∗ hold X c 1 [(0, 3), (1, 2), (0, 2)] ∗ ((∃ f, lPt (rt c) 1 fullShare f) ∗ dutyTok ER (dCell 9 c) 0 0 ∗ reached ER (dCell 9 c) 0 ∗ dutyTok ER (dCell 15 (rt c)) 0 0 ∗ reached ER (dCell 15 (rt c)) 0)) ∗ ((Ow c 2 ∗ cred (tallyAt (dCell 9 c) () (amt 9)) ∗ wPt c 1 qB (own X c) ∗ wPt c 1 qC (own X c) ∗ wPt c 1 qD (own X c)) -∗ Q ⟨⟩))
      ⊢ wp frame (wpE (defs₀ (F := F)) 𝒱₀ (c : Thread nD τ) none) Set.univ (k0_part14 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (c) v8 v35 v37 v54 v56 (V463 X c) (V465 X c) (Scalar.ofBits .f32 0x3DD105EC#32)) Q := by
  rw [k0_part14_eq_skeleton]; unfold k0_part14_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  iintro ⟨⟨#HE, HO, Hw, ⟨Hd3, Hx3, Hy3, Hz3, Ht3⟩⟩, Hk⟩
  iapply (blk_rule X c 1 3 1 256 192 [(0, 3), (1, 2), (0, 2)] rfl rfl (by decide) (by decide) _ rfl) $$ Hw
  iintro Hw
  ihave Hw := (hold_whole X c 1 [(1, 3), (0, 3), (1, 2), (0, 2)] (by decide) (by decide) (by decide) (by decide)) $$ Hw
  ihave Hw := (share4 (ℓ := A10.view.loc (c : Thread nD τ)) (halfSet 1) (own X c)) $$ Hw
  icases Hw with ⟨Hs3, Hs4, Hs5, Hs6⟩
  iapply (sendX10 X κ c _ (dev13_eq c)) $$ [Hs3 Hd3 HO Hx3 Hy3 Hz3 Ht3]
  · isplitr; · iexact HE
    isplitl [Hs3]; · iexact Hs3
    isplitl [Hd3]; · iexact Hd3
    isplitl [HO]; · iexact HO
    isplitl [Hx3]; · iexact Hx3
    isplitl [Hy3]; · iexact Hy3
    isplitl [Hz3]; · iexact Hz3
    iexact Ht3
  iintro ⟨Hf3, HO⟩
  rw [wp_ret]; imodintro
  iapply Hk
  isplitl [HO]; · iexact HO
  isplitl [Hf3]; · iexact Hf3
  isplitl [Hs4]; · iexact Hs4
  isplitl [Hs5]; · iexact Hs5
  iexact Hs6

end Cert.KernelIdeal.P

end
-- ==== Proof.RunC.lean ====
/- The last stretch of the run: the remaining halves go out, the neighbours' halves arrive one after the other and are
   multiplied into the result, and every copy is waited for. -/
module

public import proofs.«01_k».proof.Proof.RunB

@[expose] public section

set_option maxRecDepth 16384

noncomputable section

namespace Cert.KernelIdeal.P

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Inp F) (κ : GSem nD τ sig → ℕ) (c : Dev nD)

theorem w_halves (q : PosShare TreeShare) (f : (cc0_scratch1 : Ref sig .tc).ty.Contents (Elt F)) :
    (A10.view.loc (c : Thread nD τ) ↦[Finset.univ]{q} f : sProp 𝕄) ⊣⊢ iprop(wPt c 0 q f ∗ wPt c 1 q f) := by
  have h : (A10.view.loc (c : Thread nD τ) ↦[halfSet 0 ∪ halfSet 1]{q} f : sProp 𝕄) ⊣⊢ iprop(wPt c 0 q f ∗ wPt c 1 q f) :=
    pointsTo_union half_disj
  rwa [half_union] at h

theorem l_halves (q : PosShare TreeShare) (f : (cc0_scratch2 : Ref sig .tc).ty.Contents (Elt F)) :
    (A11.view.loc (c : Thread nD τ) ↦[Finset.univ]{q} f : sProp 𝕄) ⊣⊢ iprop(lPt c 0 q f ∗ lPt c 1 q f) := by
  have h : (A11.view.loc (c : Thread nD τ) ↦[halfSet 0 ∪ halfSet 1]{q} f : sProp 𝕄) ⊣⊢ iprop(lPt c 0 q f ∗ lPt c 1 q f) :=
    pointsTo_union half_disj
  rwa [half_union] at h

theorem r_halves (q : PosShare TreeShare) (f : (cc0_scratch3 : Ref sig .tc).ty.Contents (Elt F)) :
    (A12.view.loc (c : Thread nD τ) ↦[Finset.univ]{q} f : sProp 𝕄) ⊣⊢ iprop(rPt c 0 q f ∗ rPt c 1 q f) := by
  have h : (A12.view.loc (c : Thread nD τ) ↦[halfSet 0 ∪ halfSet 1]{q} f : sProp 𝕄) ⊣⊢ iprop(rPt c 0 q f ∗ rPt c 1 q f) :=
    pointsTo_union half_disj
  rwa [half_union] at h

theorem o_halves (q : PosShare TreeShare) (f : (cc0_scratch4 : Ref sig .tc).ty.Contents (Elt F)) :
    (A13.view.loc (c : Thread nD τ) ↦[Finset.univ]{q} f : sProp 𝕄) ⊣⊢ iprop(oPt c 0 q f ∗ oPt c 1 q f) := by
  have h : (A13.view.loc (c : Thread nD τ) ↦[halfSet 0 ∪ halfSet 1]{q} f : sProp 𝕄) ⊣⊢ iprop(oPt c 0 q f ∗ oPt c 1 q f) :=
    pointsTo_union half_disj
  rwa [half_union] at h

theorem part15_run (v8 v11 v54 v56 v269 v270 : BitVec 32) {Q : (FVec F S512x1024 .f32) → sProp 𝕄} :
    iprop((env X κ ∗ Ow c 2 ∗ (wPt c 1 qB (own X c) ∗ (∃ f, rPt (lf c) 1 fullShare f) ∗ dutyTok ER (dCell 10 c) 0 0 ∗ reached ER (dCell 10 c) 0 ∗ dutyTok ER (dCell 16 (lf c)) 0 0 ∗ reached ER (dCell 16 (lf c)) 0) ∗ (wPt c 1 qC (own X c) ∗ (∃ f, oPt (op c) 1 fullShare f) ∗ dutyTok ER (dCell 11 c) 0 0 ∗ reached ER (dCell 11 c) 0 ∗ dutyTok ER (dCell 17 (op c)) 0 0 ∗ reached ER (dCell 17 (op c)) 0) ∗ wPt c 0 qD (own X c) ∗ wPt c 1 qD (own X c) ∗ i7 X c) ∗ ((Ow c 0 ∗ cred (tallyAt (dCell 10 c) () (amt 10)) ∗ cred (tallyAt (dCell 11 c) () (amt 11)) ∗ (A10.view.loc (c : Thread nD τ) ↦[Finset.univ]{qD} own X c) ∗ i7 X c) -∗ Q (V524 X c)))
      ⊢ wp frame (wpE (defs₀ (F := F)) 𝒱₀ (c : Thread nD τ) none) Set.univ (k0_part15 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (c) v8 v11 v54 v56 v269 v270) Q := by
  rw [k0_part15_eq_skeleton]; unfold k0_part15_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  unfold V524 V519 V522
  iintro ⟨⟨#HE, HO, ⟨Hs4, Hd4, Hx4, Hy4, Hz4, Ht4⟩, ⟨Hs5, Hd5, Hx5, Hy5, Hz5, Ht5⟩, Hw0, Hw1, H7⟩, Hk⟩
  iapply (sendX11 X κ c _ (dev14_eq c)) $$ [Hs4 Hd4 HO Hx4 Hy4 Hz4 Ht4]
  · isplitr; · iexact HE
    isplitl [Hs4]; · iexact Hs4
    isplitl [Hd4]; · iexact Hd4
    isplitl [HO]; · iexact HO
    isplitl [Hx4]; · iexact Hx4
    isplitl [Hy4]; · iexact Hy4
    isplitl [Hz4]; · iexact Hz4
    iexact Ht4
  iintro ⟨Hf4, HO⟩
  iapply (sendX12 X κ c _ (dev15_eq c)) $$ [Hs5 Hd5 HO Hx5 Hy5 Hz5 Ht5]
  · isplitr; · iexact HE
    isplitl [Hs5]; · iexact Hs5
    isplitl [Hd5]; · iexact Hd5
    isplitl [HO]; · iexact HO
    isplitl [Hx5]; · iexact Hx5
    isplitl [Hy5]; · iexact Hy5
    isplitl [Hz5]; · iexact Hz5
    iexact Ht5
  iintro ⟨Hf5, HO⟩
  ihave Hw := (w_halves c qD (own X c)).2 $$ [Hw0 Hw1]
  · isplitl [Hw0]; · iexact Hw0
    iexact Hw1
  iapply (ld_rule c A10 Ro (S := Finset.univ) (q := qD) (f := own X c) (Finset.subset_univ _)) $$ Hw
  iintro Hw
  iapply (ld_rule c A7 (Rw1 c) (S := Finset.univ) (q := fullShare) (f := (X c).wo) (Finset.subset_univ _)) $$ H7
  iintro H7
  rw [wp_ret]; imodintro
  iapply Hk
  isplitl [HO]; · iexact HO
  isplitl [Hf4]; · iexact Hf4
  isplitl [Hf5]; · iexact Hf5
  isplitl [Hw]; · iexact Hw
  iexact H7

theorem part16_run (v8 v14 v35 v37 v54 v56 : BitVec 32) {Q : (FVec F S512x1024 .f32) → sProp 𝕄} :
    iprop((env X κ ∗ Ow c 0 ∗ (cred (tallyAt (dCell 12 c) () (amt 12)) ∗ atPos ER (dCell 12 c) 0 ∅ 0) ∗ (cred (tallyAt (dCell 15 c) () (amt 15)) ∗ atPos ER (dCell 15 c) 0 ∅ 0) ∗ (cred (tallyAt (dCell 13 c) () (amt 13)) ∗ atPos ER (dCell 13 c) 0 ∅ 0) ∗ i7 X c) ∗ ((Ow c 0 ∗ semVal (dCell 12 c) 0 ∗ semVal (dCell 15 c) 0 ∗ semVal (dCell 13 c) 0 ∗ (A11.view.loc (c : Thread nD τ) ↦[Finset.univ]{fullShare} own X (lf c)) ∗ rPt c 0 fullShare (own X (rt c)) ∗ i7 X c) -∗ Q (V551 X c)))
      ⊢ wp frame (wpE (defs₀ (F := F)) 𝒱₀ (c : Thread nD τ) none) Set.univ (k0_part16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (c) v8 v14 v35 v37 v54 v56 (V524 X c)) Q := by
  rw [k0_part16_eq_skeleton]; unfold k0_part16_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  unfold V551 V545 V548
  iintro ⟨⟨#HE, HO, ⟨Hc12, Ha12⟩, ⟨Hc15, Ha15⟩, ⟨Hc13, Ha13⟩, H7⟩, Hk⟩
  iapply (wait_rule X κ c 12 0 _ rfl (lPt c 0 fullShare (own X (lf c))) rfl (.inl rfl) (dst := lo A11) rfl) $$ [Hc12 HO Ha12]
  · isplitr; · iexact HE
    isplitl [Hc12]; · iexact Hc12
    isplitl [HO]; · iexact HO
    iexact Ha12
  iintro ⟨HO, Hv12, Hl0⟩
  iapply (wait_rule X κ c 15 0 _ rfl (lPt c 1 fullShare (own X (lf c))) rfl (.inl rfl) (dst := hi A11) rfl) $$ [Hc15 HO Ha15]
  · isplitr; · iexact HE
    isplitl [Hc15]; · iexact Hc15
    isplitl [HO]; · iexact HO
    iexact Ha15
  iintro ⟨HO, Hv15, Hl1⟩
  ihave Hl := (l_halves c fullShare (own X (lf c))).2 $$ [Hl0 Hl1]
  · isplitl [Hl0]; · iexact Hl0
    iexact Hl1
  iapply (ld_rule c A11 Ro (S := Finset.univ) (q := fullShare) (f := own X (lf c)) (Finset.subset_univ _)) $$ Hl
  iintro Hl
  iapply (ld_rule c A7 (Rw2 c) (S := Finset.univ) (q := fullShare) (f := (X c).wo) (Finset.subset_univ _)) $$ H7
  iintro H7
  iapply (wait_rule X κ c 13 0 _ rfl (rPt c 0 fullShare (own X (rt c))) rfl (.inl rfl) (dst := lo A12) rfl) $$ [Hc13 HO Ha13]
  · isplitr; · iexact HE
    isplitl [Hc13]; · iexact Hc13
    isplitl [HO]; · iexact HO
    iexact Ha13
  iintro ⟨HO, Hv13, Hr0⟩
  rw [wp_ret]; imodintro
  iapply Hk
  isplitl [HO]; · iexact HO
  isplitl [Hv12]; · iexact Hv12
  isplitl [Hv15]; · iexact Hv15
  isplitl [Hv13]; · iexact Hv13
  isplitl [Hl]; · iexact Hl
  isplitl [Hr0]; · iexact Hr0
  iexact H7

theorem part17_run (v8 v16 v35 v37 v269 v270 : BitVec 32) {Q : (Σ' (v578 : FVec F S512x1024 .f32) (v590 : BitVec 32), BitVec 32) → sProp 𝕄} :
    iprop((env X κ ∗ Ow c 0 ∗ (cred (tallyAt (dCell 16 c) () (amt 16)) ∗ atPos ER (dCell 16 c) 0 ∅ 0) ∗ (cred (tallyAt (dCell 14 c) () (amt 14)) ∗ atPos ER (dCell 14 c) 0 ∅ 0) ∗ rPt c 0 fullShare (own X (rt c)) ∗ i7 X c) ∗ (∀ w590, ∀ w591, (Ow c 0 ∗ semVal (dCell 16 c) 0 ∗ semVal (dCell 14 c) 0 ∗ (A12.view.loc (c : Thread nD τ) ↦[Finset.univ]{fullShare} own X (rt c)) ∗ oPt c 0 fullShare (own X (op c)) ∗ i7 X c) -∗ Q ⟨V578 X c, w590, w591⟩))
      ⊢ wp frame (wpE (defs₀ (F := F)) 𝒱₀ (c : Thread nD τ) none) Set.univ (k0_part17 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (c) v8 v16 v35 v37 v269 v270 (V551 X c)) Q := by
  rw [k0_part17_eq_skeleton]; unfold k0_part17_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  unfold V578 V572 V575
  iintro ⟨⟨#HE, HO, ⟨Hc16, Ha16⟩, ⟨Hc14, Ha14⟩, Hr0, H7⟩, Hk⟩
  iapply (wait_rule X κ c 16 0 _ rfl (rPt c 1 fullShare (own X (rt c))) rfl (.inl rfl) (dst := hi A12) rfl) $$ [Hc16 HO Ha16]
  · isplitr; · iexact HE
    isplitl [Hc16]; · iexact Hc16
    isplitl [HO]; · iexact HO
    iexact Ha16
  iintro ⟨HO, Hv16, Hr1⟩
  ihave Hr := (r_halves c fullShare (own X (rt c))).2 $$ [Hr0 Hr1]
  · isplitl [Hr0]; · iexact Hr0
    iexact Hr1
  iapply (ld_rule c A12 Ro (S := Finset.univ) (q := fullShare) (f := own X (rt c)) (Finset.subset_univ _)) $$ Hr
  iintro Hr
  iapply (ld_rule c A7 (Rw3 c) (S := Finset.univ) (q := fullShare) (f := (X c).wo) (Finset.subset_univ _)) $$ H7
  iintro H7
  iapply (wait_rule X κ c 14 0 _ rfl (oPt c 0 fullShare (own X (op c))) rfl (.inl rfl) (dst := lo A13) rfl) $$ [Hc14 HO Ha14]
  · isplitr; · iexact HE
    isplitl [Hc14]; · iexact Hc14
    isplitl [HO]; · iexact HO
    iexact Ha14
  iintro ⟨HO, Hv14, Ho0⟩
  rw [wp_ret]; imodintro
  iapply Hk
  isplitl [HO]; · iexact HO
  isplitl [Hv16]; · iexact Hv16
  isplitl [Hv14]; · iexact Hv14
  isplitl [Hr]; · iexact Hr
  isplitl [Ho0]; · iexact Ho0
  iexact H7

theorem part18_run (v8 v18 v590 v591 : BitVec 32) {Q : (PUnit) → sProp 𝕄} :
    iprop((env X κ ∗ Ow c 0 ∗ (cred (tallyAt (dCell 17 c) () (amt 17)) ∗ atPos ER (dCell 17 c) 0 ∅ 0) ∗ (cred (tallyAt (dCell 0 c) () (amt 0)) ∗ atPos ER (dCell 0 c) 0 ∅ 0) ∗ oPt c 0 fullShare (own X (op c)) ∗ i7 X c ∗ (∃ f, A8.view.loc (c : Thread nD τ) ↦[Finset.univ]{fullShare} f)) ∗ ((Ow c 0 ∗ semVal (dCell 17 c) 0 ∗ semVal (dCell 0 c) 0 ∗ (A13.view.loc (c : Thread nD τ) ↦[Finset.univ]{fullShare} own X (op c)) ∗ gPt c 0 qA (comm X c) ∗ i7 X c ∗ (A8.view.loc (c : Thread nD τ) ↦[Finset.univ]{fullShare} outC X c)) -∗ Q ⟨⟩))
      ⊢ wp frame (wpE (defs₀ (F := F)) 𝒱₀ (c : Thread nD τ) none) Set.univ (k0_part18 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 (c) v8 v18 (V578 X c) v590 v591) Q := by
  rw [k0_part18_eq_skeleton]; unfold k0_part18_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  have hout := outC_eq X c
  unfold out0 out1 V599 V602 at hout
  iintro ⟨⟨#HE, HO, ⟨Hc17, Ha17⟩, ⟨Hc0, Ha0⟩, Ho0, H7, ⟨%f, H8⟩⟩, Hk⟩
  iapply (wait_rule X κ c 17 0 _ rfl (oPt c 1 fullShare (own X (op c))) rfl (.inl rfl) (dst := hi A13) rfl) $$ [Hc17 HO Ha17]
  · isplitr; · iexact HE
    isplitl [Hc17]; · iexact Hc17
    isplitl [HO]; · iexact HO
    iexact Ha17
  iintro ⟨HO, Hv17, Ho1⟩
  ihave Ho := (o_halves c fullShare (own X (op c))).2 $$ [Ho0 Ho1]
  · isplitl [Ho0]; · iexact Ho0
    iexact Ho1
  iapply (ld_rule c A13 Ro (S := Finset.univ) (q := fullShare) (f := own X (op c)) (Finset.subset_univ _)) $$ Ho
  iintro Ho
  iapply (ld_rule c A7 (Rw4 c) (S := Finset.univ) (q := fullShare) (f := (X c).wo) (Finset.subset_univ _)) $$ H7
  iintro H7
  iapply (ld_rule c A8 Rx0 (S := Finset.univ) (q := fullShare) (f := f) (Finset.subset_univ _)) $$ H8
  iintro H8
  iapply (st_rule c A8 Rx0 (S := Finset.univ) (f := f) (Finset.subset_univ _)) $$ H8
  iintro H8
  iapply (ld_rule c A8 Rx1 (S := Finset.univ) (q := fullShare) (f := _) (Finset.subset_univ _)) $$ H8
  iintro H8
  iapply (st_rule c A8 Rx1 (S := Finset.univ) (f := _) (Finset.subset_univ _)) $$ H8
  iintro H8
  iapply (wait_rule X κ c 0 0 _ rfl (gPt c 0 qA (comm X c)) rfl (.inl rfl) (dst := sl0) rfl) $$ [Hc0 HO Ha0]
  · isplitr; · iexact HE
    isplitl [Hc0]; · iexact Hc0
    isplitl [HO]; · iexact HO
    iexact Ha0
  iintro ⟨HO, Hv0, Hg⟩
  ihave H8 := (Entails.of_eq (congrArg (fun g : (cc0_stg8_0 : Ref sig .tc).ty.Contents (Elt F) =>
      (A8.view.loc (c : Thread nD τ) ↦[Finset.univ]{fullShare} g : sProp 𝕄)) (hout f))) $$ H8
  rw [wp_ret]; imodintro
  iapply Hk
  isplitl [HO]; · iexact HO
  isplitl [Hv17]; · iexact Hv17
  isplitl [Hv0]; · iexact Hv0
  isplitl [Ho]; · iexact Ho
  isplitl [Hg]; · iexact Hg
  isplitl [H7]; · iexact H7
  iexact H8

theorem part19_run {Q : (PUnit) → sProp 𝕄} :
    iprop((env X κ ∗ Ow c 0 ∗ (cred (tallyAt (dCell 1 c) () (amt 1)) ∗ atPos ER (dCell 1 c) 0 ∅ 0) ∗ (cred (tallyAt (dCell 2 c) () (amt 2)) ∗ atPos ER (dCell 2 c) 0 ∅ 0) ∗ (cred (tallyAt (dCell 6 c) () (amt 6)) ∗ atPos ER (dCell 6 c) 0 ∅ 0) ∗ (cred (tallyAt (dCell 7 c) () (amt 7)) ∗ atPos ER (dCell 7 c) 0 ∅ 0)) ∗ ((Ow c 0 ∗ semVal (dCell 1 c) 0 ∗ gPt c 0 qB (comm X c) ∗ semVal (dCell 2 c) 0 ∗ gPt c 0 qC (comm X c) ∗ semVal (dCell 6 c) 0 ∗ wPt c 0 qA (own X c) ∗ semVal (dCell 7 c) 0 ∗ wPt c 0 qB (own X c)) -∗ Q ⟨⟩))
      ⊢ wp frame (wpE (defs₀ (F := F)) 𝒱₀ (c : Thread nD τ) none) Set.univ (k0_part19 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8 ) Q := by
  rw [k0_part19_eq_skeleton]; unfold k0_part19_skel
  simp only [Prog.lift, Prog.bind_op, Prog.bind_ret, Prog.pure_eq_ret, Bind.bind, Prog.bind, semSignalWord, semWaitWord, bar_sem, zsend0, zsend1, zsend2, zrecv0, zrecv1, zrecv2, xsend0, xsend1, xsend2, xsend3, xsend4, xsend5, xrecv0, xrecv1, xrecv2, xrecv3, xrecv4, xrecv5]
  iintro ⟨⟨#HE, HO, ⟨Hc1, Ha1⟩, ⟨Hc2, Ha2⟩, ⟨Hc6, Ha6⟩, ⟨Hc7, Ha7⟩⟩, Hk⟩
  iapply (wait_rule X κ c 1 0 _ rfl (gPt c 0 qB (comm X c)) rfl (.inl rfl) (dst := sl0) rfl) $$ [Hc1 HO Ha1]
  · isplitr; · iexact HE
    isplitl [Hc1]; · iexact Hc1
    isplitl [HO]; · iexact HO
    iexact Ha1
  iintro ⟨HO, Hv1, Hp1⟩
  iapply (wait_rule X κ c 2 0 _ rfl (gPt c 0 qC (comm X c)) rfl (.inl rfl) (dst := sl0) rfl) $$ [Hc2 HO Ha2]
  · isplitr; · iexact HE
    isplitl [Hc2]; · iexact Hc2
    isplitl [HO]; · iexact HO
    iexact Ha2
  iintro ⟨HO, Hv2, Hp2⟩
  iapply (wait_rule X κ c 6 0 _ rfl (wPt c 0 qA (own X c)) rfl (.inl rfl) (dst := lo A10) rfl) $$ [Hc6 HO Ha6]
  · isplitr; · iexact HE
    isplitl [Hc6]; · iexact Hc6
    isplitl [HO]; · iexact HO
    iexact Ha6
  iintro ⟨HO, Hv6, Hp6⟩
  iapply (wait_rule X κ c 7 0 _ rfl (wPt c 0 qB (own X c)) rfl (.inl rfl) (dst := lo A10) rfl) $$ [Hc7 HO Ha7]
  · isplitr; · iexact HE
    isplitl [Hc7]; · iexact Hc7
    isplitl [HO]; · iexact HO
    iexact Ha7
  iintro ⟨HO, Hv7, Hp7⟩
  rw [wp_ret]; imodintro
  iapply Hk
  isplitl [HO]; · iexact HO
  isplitl [Hv1]; · iexact Hv1
  isplitl [Hp1]; · iexact Hp1
  isplitl [Hv2]; · iexact Hv2
  isplitl [Hp2]; · iexact Hp2
  isplitl [Hv6]; · iexact Hv6
  isplitl [Hp6]; · iexact Hp6
  isplitl [Hv7]; · iexact Hv7
  iexact Hp7

end Cert.KernelIdeal.P

end
-- ==== Proof.Body.lean ====
/- The whole run of the kernel on one device, from the launch's holdings to what is handed back. -/
module

public import proofs.«01_k».proof.Proof.RunC

@[expose] public section

set_option maxRecDepth 16384

noncomputable section

namespace Cert.KernelIdeal.P

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Inp F) (κ : GSem nD τ sig → ℕ) (c : Dev nD)

/-! ## The nine copies, in the order they are made -/

/-- The sending cell, the receiving cell, and the peer of each copy. -/
def sj : Fin 9 → Fin 18 | 0 => 0 | 1 => 1 | 2 => 2 | 3 => 6 | 4 => 7 | 5 => 8 | 6 => 9 | 7 => 10 | ⟨_, _⟩ => 11
def rj : Fin 9 → Fin 18 | 0 => 5 | 1 => 4 | 2 => 3 | 3 => 12 | 4 => 13 | 5 => 14 | 6 => 15 | 7 => 16 | ⟨_, _⟩ => 17
def cp : Fin 9 → Fin 6 | 0 => 0 | 1 => 1 | 2 => 2 | 3 => 3 | 4 => 4 | 5 => 5 | 6 => 3 | 7 => 4 | ⟨_, _⟩ => 5

theorem sep6 (Φ : Fin 6 → sProp 𝕄) : bigSep Finset.univ Φ = iprop(Φ 0 ∗ Φ 1 ∗ Φ 2 ∗ Φ 3 ∗ Φ 4 ∗ Φ 5) :=
  BI.bigSep_univ_eq_bigSepL [(0 : Fin 6), 1, 2, 3, 4, 5] (by decide) (by decide) Φ
theorem sep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  BI.bigSep_univ_eq_bigSepL [(0 : Fin 9), 1, 2, 3, 4, 5, 6, 7, 8] (by decide) (by decide) Φ
theorem sep18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  BI.bigSep_univ_eq_bigSepL [(0 : Fin 18), 1, 2, 3, 4, 5, 6, 7, 8, 9, 10, 11, 12, 13, 14, 15, 16, 17] (by decide) (by decide) Φ

/-- The rights to pay that device `c` is dealt: one barrier unit to each peer, and the two ends of each of its copies. -/
def barToks : sProp 𝕄 := bigSep Finset.univ fun k : Fin 6 => dutyTok ER (barCell (peer k c)) 0 k
def sendToks : sProp 𝕄 := bigSep Finset.univ fun k : Fin 9 => dutyTok ER (dCell (sj k) c) 0 0
def recvToks : sProp 𝕄 := bigSep Finset.univ fun k : Fin 9 => dutyTok ER (dCell (rj k) (peer (cp k) c)) 0 0
/-- The units that are coming to device `c`'s receiving cells. -/
def recvCreds : sProp 𝕄 := bigSep Finset.univ fun k : Fin 9 => cred (tallyAt (dCell (rj k) c) () (amt (rj k)))
/-- The copy cells, at the start of their round. -/
def cells0 : sProp 𝕄 := bigSep Finset.univ fun j : Fin 18 => iprop(atPos ER (dCell j c) 0 ∅ 0 ∗ reached ER (dCell j c) 0)
/-- The copy cells' counters, at zero again. -/
def zeros : sProp 𝕄 := bigSep Finset.univ fun j : Fin 18 => semVal (dCell j c) 0

/-- The kernel's own buffers, with whatever they hold. -/
def scratch : sProp 𝕄 := iprop((∃ f, A9.view.loc (c : Thread nD τ) ↦[Finset.univ]{fullShare} f) ∗ (∃ f, A10.view.loc (c : Thread nD τ) ↦[Finset.univ]{fullShare} f) ∗ (∃ f, A11.view.loc (c : Thread nD τ) ↦[Finset.univ]{fullShare} f) ∗ (∃ f, A12.view.loc (c : Thread nD τ) ↦[Finset.univ]{fullShare} f) ∗ (∃ f, A13.view.loc (c : Thread nD τ) ↦[Finset.univ]{fullShare} f))
/-- The eight inputs. -/
def ins : sProp 𝕄 := iprop(i0 X c ∗ i1 X c ∗ i2 X c ∗ i3 X c ∗ i4 X c ∗ i5 X c ∗ i6 X c ∗ i7 X c)

/-- What device `c` starts the kernel with, its buffers apart. -/
def start : sProp 𝕄 :=
  iprop(cred (tallyAt (barCell c) () 6) ∗ atPos ER (barCell c) 0 ∅ 0 ∗ barToks c ∗ sendToks c ∗ recvToks c ∗ recvCreds c ∗ cells0 c)

/-! ## The gather buffer by rows, and what is handed over at the barrier -/

theorem g_rows (f : (cc0_scratch0 : Ref sig .tc).ty.Contents (Elt F)) :
    (A9.view.loc (c : Thread nD τ) ↦[Finset.univ]{fullShare} f : sProp 𝕄)
      ⊣⊢ iprop(gPt c 0 fullShare f ∗ gPt c 1 fullShare f ∗ gPt c 2 fullShare f ∗ gPt c 3 fullShare f) := by
  have d23 := slot_disj 2 3 (by decide)
  have d1 : Disjoint (slotSet 1) (slotSet 2 ∪ slotSet 3) :=
    Finset.disjoint_union_right.mpr ⟨slot_disj 1 2 (by decide), slot_disj 1 3 (by decide)⟩
  have d0 : Disjoint (slotSet 0) (slotSet 1 ∪ (slotSet 2 ∪ slotSet 3)) :=
    Finset.disjoint_union_right.mpr ⟨slot_disj 0 1 (by decide),
      Finset.disjoint_union_right.mpr ⟨slot_disj 0 2 (by decide), slot_disj 0 3 (by decide)⟩⟩
  have h0 : (A9.view.loc (c : Thread nD τ) ↦[slotSet 0 ∪ (slotSet 1 ∪ (slotSet 2 ∪ slotSet 3))]{fullShare} f : sProp 𝕄)
      ⊣⊢ iprop(gPt c 0 fullShare f ∗ (A9.view.loc (c : Thread nD τ) ↦[slotSet 1 ∪ (slotSet 2 ∪ slotSet 3)]{fullShare} f)) := pointsTo_union d0
  have h1 : (A9.view.loc (c : Thread nD τ) ↦[slotSet 1 ∪ (slotSet 2 ∪ slotSet 3)]{fullShare} f : sProp 𝕄)
      ⊣⊢ iprop(gPt c 1 fullShare f ∗ (A9.view.loc (c : Thread nD τ) ↦[slotSet 2 ∪ slotSet 3]{fullShare} f)) := pointsTo_union d1
  have h2 : (A9.view.loc (c : Thread nD τ) ↦[slotSet 2 ∪ slotSet 3]{fullShare} f : sProp 𝕄)
      ⊣⊢ iprop(gPt c 2 fullShare f ∗ gPt c 3 fullShare f) := pointsTo_union d23
  rw [slot_union] at h0
  exact ⟨h0.1.trans (sep_mono_right (h1.1.trans (sep_mono_right h2.1))),
    (sep_mono_right ((sep_mono_right h2.2).trans h1.2)).trans h0.2⟩

theorem pay_0 : (barPay 0 c : sProp 𝕄) = iprop((∃ f, gPt c 1 fullShare f) ∗ reached ER (dCell 3 c) 0) := rfl
theorem pay_1 : (barPay 1 c : sProp 𝕄) = iprop((∃ f, gPt c 2 fullShare f) ∗ reached ER (dCell 4 c) 0) := rfl
theorem pay_2 : (barPay 2 c : sProp 𝕄) = iprop((∃ f, gPt c 3 fullShare f) ∗ reached ER (dCell 5 c) 0) := rfl
theorem pay_3 : (barPay 3 c : sProp 𝕄)
    = iprop((∃ f, rPt c 0 fullShare f) ∗ (∃ f, rPt c 1 fullShare f) ∗ reached ER (dCell 13 c) 0 ∗ reached ER (dCell 16 c) 0) := rfl
theorem pay_4 : (barPay 4 c : sProp 𝕄)
    = iprop((∃ f, lPt c 0 fullShare f) ∗ (∃ f, lPt c 1 fullShare f) ∗ reached ER (dCell 12 c) 0 ∗ reached ER (dCell 15 c) 0) := rfl
theorem pay_5 : (barPay 5 c : sProp 𝕄)
    = iprop((∃ f, oPt c 0 fullShare f) ∗ (∃ f, oPt c 1 fullShare f) ∗ reached ER (dCell 14 c) 0 ∗ reached ER (dCell 17 c) 0) := rfl

/-- Device `c` gives its landing places away, each to the peer that fills it, and keeps the row it packs. -/
theorem offer : iprop((∃ f, A9.view.loc (c : Thread nD τ) ↦[Finset.univ]{fullShare} f) ∗ (∃ f, A11.view.loc (c : Thread nD τ) ↦[Finset.univ]{fullShare} f) ∗ (∃ f, A12.view.loc (c : Thread nD τ) ↦[Finset.univ]{fullShare} f) ∗ (∃ f, A13.view.loc (c : Thread nD τ) ↦[Finset.univ]{fullShare} f) ∗ reached ER (dCell 3 c) 0 ∗ reached ER (dCell 4 c) 0 ∗ reached ER (dCell 5 c) 0 ∗ reached ER (dCell 12 c) 0 ∗ reached ER (dCell 13 c) 0 ∗ reached ER (dCell 14 c) 0 ∗ reached ER (dCell 15 c) 0 ∗ reached ER (dCell 16 c) 0 ∗ reached ER (dCell 17 c) 0)
    ⊢ (iprop((∃ f, gPt c 0 fullShare f) ∗ barPay 0 c ∗ barPay 1 c ∗ barPay 2 c ∗ barPay 3 c ∗ barPay 4 c ∗ barPay 5 c) : sProp 𝕄) := by
  iintro ⟨⟨%f, Hg⟩, ⟨%fl, Hl⟩, ⟨%fr, Hr⟩, ⟨%fo, Ho⟩, #R3, #R4, #R5, #R12, #R13, #R14, #R15, #R16, #R17⟩
  ihave Hg := (g_rows c f).1 $$ Hg
  icases Hg with ⟨Hg0, Hg1, Hg2, Hg3⟩
  ihave Hl := (l_halves c fullShare fl).1 $$ Hl
  icases Hl with ⟨Hl0, Hl1⟩
  ihave Hr := (r_halves c fullShare fr).1 $$ Hr
  icases Hr with ⟨Hr0, Hr1⟩
  ihave Ho := (o_halves c fullShare fo).1 $$ Ho
  icases Ho with ⟨Ho0, Ho1⟩
  rw [pay_0, pay_1, pay_2, pay_3, pay_4, pay_5]
  isplitl [Hg0]; · iexists f; iexact Hg0
  isplitl [Hg1]
  · isplitl [Hg1]; · iexists f; iexact Hg1
    iexact R3
  isplitl [Hg2]
  · isplitl [Hg2]; · iexists f; iexact Hg2
    iexact R4
  isplitl [Hg3]
  · isplitl [Hg3]; · iexists f; iexact Hg3
    iexact R5
  isplitl [Hr0 Hr1]
  · isplitl [Hr0]; · iexists fr; iexact Hr0
    isplitl [Hr1]; · iexists fr; iexact Hr1
    isplitr; · iexact R13
    iexact R16
  isplitl [Hl0 Hl1]
  · isplitl [Hl0]; · iexists fl; iexact Hl0
    isplitl [Hl1]; · iexists fl; iexact Hl1
    isplitr; · iexact R12
    iexact R15
  isplitl [Ho0]; · iexists fo; iexact Ho0
  isplitl [Ho1]; · iexists fo; iexact Ho1
  isplitr; · iexact R14
  iexact R17

/-- What device `c` is handed at the barrier, copy by copy: where it lands, and that the cell it pays is open. -/
theorem gifts : iprop(barPay 0 (zsh 3 c) ∗ barPay 1 (zsh 2 c) ∗ barPay 2 (zsh 1 c) ∗ barPay 3 (lf c) ∗ barPay 4 (rt c) ∗ barPay 5 (op c))
    ⊢ (iprop(((∃ f, gPt (zsh 1 c) 3 fullShare f) ∗ reached ER (dCell 5 (zsh 1 c)) 0) ∗ ((∃ f, gPt (zsh 2 c) 2 fullShare f) ∗ reached ER (dCell 4 (zsh 2 c)) 0) ∗ ((∃ f, gPt (zsh 3 c) 1 fullShare f) ∗ reached ER (dCell 3 (zsh 3 c)) 0) ∗ ((∃ f, lPt (rt c) 0 fullShare f) ∗ reached ER (dCell 12 (rt c)) 0) ∗ ((∃ f, rPt (lf c) 0 fullShare f) ∗ reached ER (dCell 13 (lf c)) 0) ∗ ((∃ f, oPt (op c) 0 fullShare f) ∗ reached ER (dCell 14 (op c)) 0) ∗ ((∃ f, lPt (rt c) 1 fullShare f) ∗ reached ER (dCell 15 (rt c)) 0) ∗ ((∃ f, rPt (lf c) 1 fullShare f) ∗ reached ER (dCell 16 (lf c)) 0) ∗ ((∃ f, oPt (op c) 1 fullShare f) ∗ reached ER (dCell 17 (op c)) 0)) : sProp 𝕄) := by
  rw [pay_0, pay_1, pay_2, pay_3, pay_4, pay_5]
  iintro ⟨⟨Hd3, R3⟩, ⟨Hd4, R4⟩, ⟨Hd5, R5⟩, ⟨Hd13, Hd16, R13, R16⟩, ⟨Hd12, Hd15, R12, R15⟩, Hd14, Hd17, R14, R17⟩
  isplitl [Hd5 R5]
  · isplitl [Hd5]; · iexact Hd5
    iexact R5
  isplitl [Hd4 R4]
  · isplitl [Hd4]; · iexact Hd4
    iexact R4
  isplitl [Hd3 R3]
  · isplitl [Hd3]; · iexact Hd3
    iexact R3
  isplitl [Hd12 R12]
  · isplitl [Hd12]; · iexact Hd12
    iexact R12
  isplitl [Hd13 R13]
  · isplitl [Hd13]; · iexact Hd13
    iexact R13
  isplitl [Hd14 R14]
  · isplitl [Hd14]; · iexact Hd14
    iexact R14
  isplitl [Hd15 R15]
  · isplitl [Hd15]; · iexact Hd15
    iexact R15
  isplitl [Hd16 R16]
  · isplitl [Hd16]; · iexact Hd16
    iexact R16
  isplitl [Hd17]; · iexact Hd17
  iexact R17

/-- The gather buffer put together again. -/
theorem g_back (f : (cc0_scratch0 : Ref sig .tc).ty.Contents (Elt F)) :
    iprop(gPt c 0 qA f ∗ gPt c 0 qB f ∗ gPt c 0 qC f ∗ gPt c 0 qD f ∗ gPt c 1 fullShare f ∗ gPt c 2 fullShare f ∗ gPt c 3 fullShare f)
      ⊢ (A9.view.loc (c : Thread nD τ) ↦[Finset.univ]{fullShare} f : sProp 𝕄) := by
  iintro ⟨Ha, Hb, Hc, Hd, H1, H2, H3⟩
  iapply (g_rows c f).2
  isplitl [Ha Hb Hc Hd]
  · iapply (share4_join (ℓ := A9.view.loc (c : Thread nD τ)) (slotSet 0) f)
    isplitl [Ha]; · iexact Ha
    isplitl [Hb]; · iexact Hb
    isplitl [Hc]; · iexact Hc
    iexact Hd
  isplitl [H1]; · iexact H1
  isplitl [H2]; · iexact H2
  iexact H3

/-- The output buffer put together again. -/
theorem w_back (f : (cc0_scratch1 : Ref sig .tc).ty.Contents (Elt F)) :
    iprop((wPt c 0 qA f ∗ wPt c 0 qB f ∗ wPt c 0 qC f) ∗ (wPt c 1 qA f ∗ wPt c 1 qB f ∗ wPt c 1 qC f)
        ∗ (A10.view.loc (c : Thread nD τ) ↦[Finset.univ]{qD} f))
      ⊢ (A10.view.loc (c : Thread nD τ) ↦[Finset.univ]{fullShare} f : sProp 𝕄) := by
  iintro ⟨⟨Ha0, Hb0, Hc0⟩, ⟨Ha1, Hb1, Hc1⟩, Hd⟩
  iapply (share4_join (ℓ := A10.view.loc (c : Thread nD τ)) Finset.univ f)
  isplitl [Ha0 Ha1]
  · iapply (w_halves c qA f).2; isplitl [Ha0] <;> iassumption
  isplitl [Hb0 Hb1]
  · iapply (w_halves c qB f).2; isplitl [Hb0] <;> iassumption
  isplitl [Hc0 Hc1]
  · iapply (w_halves c qC f).2; isplitl [Hc0] <;> iassumption
  iexact Hd

theorem barToks_eq : (barToks c : sProp 𝕄) = iprop(dutyTok ER (barCell (peer 0 c)) 0 0 ∗ dutyTok ER (barCell (peer 1 c)) 0 1 ∗ dutyTok ER (barCell (peer 2 c)) 0 2 ∗ dutyTok ER (barCell (peer 3 c)) 0 3 ∗ dutyTok ER (barCell (peer 4 c)) 0 4 ∗ dutyTok ER (barCell (peer 5 c)) 0 5) := sep6 _
theorem sendToks_eq : (sendToks c : sProp 𝕄) = iprop(dutyTok ER (dCell 0 c) 0 0 ∗ dutyTok ER (dCell 1 c) 0 0 ∗ dutyTok ER (dCell 2 c) 0 0 ∗ dutyTok ER (dCell 6 c) 0 0 ∗ dutyTok ER (dCell 7 c) 0 0 ∗ dutyTok ER (dCell 8 c) 0 0 ∗ dutyTok ER (dCell 9 c) 0 0 ∗ dutyTok ER (dCell 10 c) 0 0 ∗ dutyTok ER (dCell 11 c) 0 0) := sep9 _
theorem recvToks_eq : (recvToks c : sProp 𝕄) = iprop(dutyTok ER (dCell 5 (zsh 1 c)) 0 0 ∗ dutyTok ER (dCell 4 (zsh 2 c)) 0 0 ∗ dutyTok ER (dCell 3 (zsh 3 c)) 0 0 ∗ dutyTok ER (dCell 12 (rt c)) 0 0 ∗ dutyTok ER (dCell 13 (lf c)) 0 0 ∗ dutyTok ER (dCell 14 (op c)) 0 0 ∗ dutyTok ER (dCell 15 (rt c)) 0 0 ∗ dutyTok ER (dCell 16 (lf c)) 0 0 ∗ dutyTok ER (dCell 17 (op c)) 0 0) := sep9 _
theorem recvCreds_eq : (recvCreds c : sProp 𝕄) = iprop(cred (tallyAt (dCell 5 c) () (amt 5)) ∗ cred (tallyAt (dCell 4 c) () (amt 4)) ∗ cred (tallyAt (dCell 3 c) () (amt 3)) ∗ cred (tallyAt (dCell 12 c) () (amt 12)) ∗ cred (tallyAt (dCell 13 c) () (amt 13)) ∗ cred (tallyAt (dCell 14 c) () (amt 14)) ∗ cred (tallyAt (dCell 15 c) () (amt 15)) ∗ cred (tallyAt (dCell 16 c) () (amt 16)) ∗ cred (tallyAt (dCell 17 c) () (amt 17))) := sep9 _
theorem cells0_eq : (cells0 c : sProp 𝕄) = iprop((atPos ER (dCell 0 c) 0 ∅ 0 ∗ reached ER (dCell 0 c) 0) ∗ (atPos ER (dCell 1 c) 0 ∅ 0 ∗ reached ER (dCell 1 c) 0) ∗ (atPos ER (dCell 2 c) 0 ∅ 0 ∗ reached ER (dCell 2 c) 0) ∗ (atPos ER (dCell 3 c) 0 ∅ 0 ∗ reached ER (dCell 3 c) 0) ∗ (atPos ER (dCell 4 c) 0 ∅ 0 ∗ reached ER (dCell 4 c) 0) ∗ (atPos ER (dCell 5 c) 0 ∅ 0 ∗ reached ER (dCell 5 c) 0) ∗ (atPos ER (dCell 6 c) 0 ∅ 0 ∗ reached ER (dCell 6 c) 0) ∗ (atPos ER (dCell 7 c) 0 ∅ 0 ∗ reached ER (dCell 7 c) 0) ∗ (atPos ER (dCell 8 c) 0 ∅ 0 ∗ reached ER (dCell 8 c) 0) ∗ (atPos ER (dCell 9 c) 0 ∅ 0 ∗ reached ER (dCell 9 c) 0) ∗ (atPos ER (dCell 10 c) 0 ∅ 0 ∗ reached ER (dCell 10 c) 0) ∗ (atPos ER (dCell 11 c) 0 ∅ 0 ∗ reached ER (dCell 11 c) 0) ∗ (atPos ER (dCell 12 c) 0 ∅ 0 ∗ reached ER (dCell 12 c) 0) ∗ (atPos ER (dCell 13 c) 0 ∅ 0 ∗ reached ER (dCell 13 c) 0) ∗ (atPos ER (dCell 14 c) 0 ∅ 0 ∗ reached ER (dCell 14 c) 0) ∗ (atPos ER (dCell 15 c) 0 ∅ 0 ∗ reached ER (dCell 15 c) 0) ∗ (atPos ER (dCell 16 c) 0 ∅ 0 ∗ reached ER (dCell 16 c) 0) ∗ (atPos ER (dCell 17 c) 0 ∅ 0 ∗ reached ER (dCell 17 c) 0)) := sep18 _

theorem zeros_eq : (zeros c : sProp 𝕄) = iprop(semVal (dCell 0 c) 0 ∗ semVal (dCell 1 c) 0 ∗ semVal (dCell 2 c) 0 ∗ semVal (dCell 3 c) 0 ∗ semVal (dCell 4 c) 0 ∗ semVal (dCell 5 c) 0 ∗ semVal (dCell 6 c) 0 ∗ semVal (dCell 7 c) 0 ∗ semVal (dCell 8 c) 0 ∗ semVal (dCell 9 c) 0 ∗ semVal (dCell 10 c) 0 ∗ semVal (dCell 11 c) 0 ∗ semVal (dCell 12 c) 0 ∗ semVal (dCell 13 c) 0 ∗ semVal (dCell 14 c) 0 ∗ semVal (dCell 15 c) 0 ∗ semVal (dCell 16 c) 0 ∗ semVal (dCell 17 c) 0) := sep18 _

set_option maxHeartbeats 4000000 in
/-- THE KERNEL on device `c`: everything owed is paid, the inputs stand, the result is the device's own, and every buffer and
    every counter is handed back. -/
theorem kernel_run {Q : PUnit → sProp 𝕄} :
    iprop((env X κ ∗ Ow c 15 ∗ ins X c ∗ (∃ f, A8.view.loc (c : Thread nD τ) ↦[Finset.univ]{fullShare} f) ∗ scratch c ∗ start c)
        ∗ ((Ow c 0 ∗ ins X c ∗ (A8.view.loc (c : Thread nD τ) ↦[Finset.univ]{fullShare} outC X c) ∗ scratch c ∗ semVal (barCell c) 0 ∗ zeros c) -∗ Q ⟨⟩))
      ⊢ wp frame (wpE (defs₀ (F := F)) 𝒱₀ (c : Thread nD τ) none) Set.univ (k0_part20 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8) Q := by
  rw [k0_part20_eq_skeleton]; unfold k0_part20_skel
  unfold ins scratch start
  rw [barToks_eq, sendToks_eq, recvToks_eq, recvCreds_eq, cells0_eq, zeros_eq]
  iintro ⟨⟨#HE, HO, ⟨I0, I1, I2, I3, I4, I5, I6, I7⟩, H8, ⟨H9, ⟨%fw, Hw⟩, Hl, Hr, Ho⟩, HcB, HaB, ⟨Ht0, Ht1, Ht2, Ht3, Ht4, Ht5⟩, ⟨Hs0, Hs1, Hs2, Hs6, Hs7, Hs8, Hs9, Hs10, Hs11⟩, ⟨Hr5, Hr4, Hr3, Hr12, Hr13, Hr14, Hr15, Hr16, Hr17⟩, ⟨Hc5, Hc4, Hc3, Hc12, Hc13, Hc14, Hc15, Hc16, Hc17⟩, ⟨Ha0, #R0⟩, ⟨Ha1, #R1⟩, ⟨Ha2, #R2⟩, ⟨Ha3, #R3⟩, ⟨Ha4, #R4⟩, ⟨Ha5, #R5⟩, ⟨Ha6, #R6⟩, ⟨Ha7, #R7⟩, ⟨Ha8, #R8⟩, ⟨Ha9, #R9⟩, ⟨Ha10, #R10⟩, ⟨Ha11, #R11⟩, ⟨Ha12, #R12⟩, ⟨Ha13, #R13⟩, ⟨Ha14, #R14⟩, ⟨Ha15, #R15⟩, ⟨Ha16, #R16⟩, ⟨Ha17, #R17⟩⟩, Hk⟩
  ihave Hoff := (offer c) $$ [H9 Hl Hr Ho]
  · isplitl [H9]; · iexact H9
    isplitl [Hl]; · iexact Hl
    isplitl [Hr]; · iexact Hr
    isplitl [Ho]; · iexact Ho
    isplitr; · iexact R3
    isplitr; · iexact R4
    isplitr; · iexact R5
    isplitr; · iexact R12
    isplitr; · iexact R13
    isplitr; · iexact R14
    isplitr; · iexact R15
    isplitr; · iexact R16
    iexact R17
  icases Hoff with ⟨Hg0, Hp0, Hp1, Hp2, Hp3, Hp4, Hp5⟩
  ihave Hw := (w_halves c fullShare fw).1 $$ Hw
  icases Hw with ⟨Hw0, Hw1⟩
  ihave Hw0 := (hold_start X c 0) $$ [Hw0]
  · iexists fw; iexact Hw0
  ihave Hw1 := (hold_start X c 1) $$ [Hw1]
  · iexists fw; iexact Hw1
  rw [wp_bind]
  iapply (part1_run c)
  isplitr
  · iempintro
  iintro %_ %_ %_ %_ %_ %_ %_ %_ %_ -
  try dsimp only
  rw [wp_bind]
  iapply (part2_run X κ c _ _ _ _ _ _)
  isplitl [HO Ht0 Hp0]
  · isplitr; · iexact HE
    isplitl [HO]; · iexact HO
    isplitl [Ht0]; · iexact Ht0
    iexact Hp0
  iintro %_ %_ %_ %_ %_ %_ %_ %_ HO
  try dsimp only
  rw [wp_bind]
  iapply (part3_run X κ c _ _ _ _ _ _ _ _ _ _ _ _)
  isplitl [HO Ht1 Hp1 Ht2 Hp2 Ht3 Hp3 Ht4 Hp4 Ht5 Hp5]
  · isplitr; · iexact HE
    isplitl [HO]; · iexact HO
    isplitl [Ht1 Hp1]
    · isplitl [Ht1]; · iexact Ht1
      iexact Hp1
    isplitl [Ht2 Hp2]
    · isplitl [Ht2]; · iexact Ht2
      iexact Hp2
    isplitl [Ht3 Hp3]
    · isplitl [Ht3]; · iexact Ht3
      iexact Hp3
    isplitl [Ht4 Hp4]
    · isplitl [Ht4]; · iexact Ht4
      iexact Hp4
    isplitl [Ht5]; · iexact Ht5
    iexact Hp5
  iintro HO
  try dsimp only
  rw [wp_bind]
  iapply (part4_run X κ c _ _)
  isplitl [I0 I1 I2 I3 Hg0 HcB HO HaB]
  · isplitr; · iexact HE
    isplitl [I0]; · iexact I0
    isplitl [I1]; · iexact I1
    isplitl [I2]; · iexact I2
    isplitl [I3]; · iexact I3
    isplitl [Hg0]; · iexact Hg0
    isplitl [HcB]; · iexact HcB
    isplitl [HO]; · iexact HO
    iexact HaB
  iintro %_ %_ %_ ⟨I0, I1, I2, I3, Hg0, HO, HvB, Hgift⟩
  try dsimp only
  ihave Hgift := (gifts c) $$ Hgift
  icases Hgift with ⟨⟨Hd5, #RR5⟩, ⟨Hd4, #RR4⟩, ⟨Hd3, #RR3⟩, ⟨Hd12, #RR12⟩, ⟨Hd13, #RR13⟩, ⟨Hd14, #RR14⟩, ⟨Hd15, #RR15⟩, ⟨Hd16, #RR16⟩, ⟨Hd17, #RR17⟩⟩
  ihave Hg0 := (share4 (ℓ := A9.view.loc (c : Thread nD τ)) (slotSet 0) (comm X c)) $$ Hg0
  icases Hg0 with ⟨HgA, HgB, HgC, HgD⟩
  rw [wp_bind]
  iapply (part5_run X κ c _ _ _ _ _ _)
  isplitl [HO HgA Hd5 Hs0 Hr5 HgB Hd4 Hs1 Hr4]
  · isplitr; · iexact HE
    isplitl [HO]; · iexact HO
    isplitl [HgA Hd5 Hs0 Hr5]
    · isplitl [HgA]; · iexact HgA
      isplitl [Hd5]; · iexact Hd5
      isplitl [Hs0]; · iexact Hs0
      isplitr; · iexact R0
      isplitl [Hr5]; · iexact Hr5
      iexact RR5
    isplitl [HgB]; · iexact HgB
    isplitl [Hd4]; · iexact Hd4
    isplitl [Hs1]; · iexact Hs1
    isplitr; · iexact R1
    isplitl [Hr4]; · iexact Hr4
    iexact RR4
  iintro %_ %_ %_ ⟨HO, Hc0, Hc1⟩
  try dsimp only
  rw [wp_bind]
  iapply (part6_run X κ c _ _ _ _)
  isplitl [HO I4 I5 I6 HgC Hd3 Hs2 Hr3]
  · isplitr; · iexact HE
    isplitl [HO]; · iexact HO
    isplitl [I4]; · iexact I4
    isplitl [I5]; · iexact I5
    isplitl [I6]; · iexact I6
    isplitl [HgC]; · iexact HgC
    isplitl [Hd3]; · iexact Hd3
    isplitl [Hs2]; · iexact Hs2
    isplitr; · iexact R2
    isplitl [Hr3]; · iexact Hr3
    iexact RR3
  iintro ⟨HO, I4, I5, I6, Hc2⟩
  try dsimp only
  rw [wp_bind]
  iapply (part7_run X κ c _ _ _)
  isplitl [HO Hc3 Ha3]
  · isplitr; · iexact HE
    isplitl [HO]; · iexact HO
    isplitl [Hc3]; · iexact Hc3
    iexact Ha3
  iintro %_ %_ ⟨HO, Hv3, Hg1⟩
  try dsimp only
  rw [wp_bind]
  iapply (part8_run X κ c _ _ _ _ _)
  isplitl [HO Hc4 Ha4 Hc5 Ha5]
  · isplitr; · iexact HE
    isplitl [HO]; · iexact HO
    isplitl [Hc4 Ha4]
    · isplitl [Hc4]; · iexact Hc4
      iexact Ha4
    isplitl [Hc5]; · iexact Hc5
    iexact Ha5
  iintro ⟨HO, Hv4, Hg2, Hv5, Hg3⟩
  try dsimp only
  rw [wp_bind]
  iapply (part9_run X c _ _)
  isplitl [Hw0]
  · iexact Hw0
  iintro %_ %_ Hw0
  try dsimp only
  rw [wp_bind]
  iapply (part10_run X c)
  isplitl [Hw0]
  · iexact Hw0
  iintro Hw0
  try dsimp only
  rw [wp_bind]
  iapply (part11_run X κ c _ _ _ _ _)
  isplitl [HO Hw0 Hd12 Hs6 Hr12 Hd13 Hs7 Hr13]
  · isplitr; · iexact HE
    isplitl [HO]; · iexact HO
    isplitl [Hw0]; · iexact Hw0
    isplitl [Hd12 Hs6 Hr12]
    · isplitl [Hd12]; · iexact Hd12
      isplitl [Hs6]; · iexact Hs6
      isplitr; · iexact R6
      isplitl [Hr12]; · iexact Hr12
      iexact RR12
    isplitl [Hd13]; · iexact Hd13
    isplitl [Hs7]; · iexact Hs7
    isplitr; · iexact R7
    isplitl [Hr13]; · iexact Hr13
    iexact RR13
  iintro ⟨HO, Hc6, Hc7, HwC, HwD⟩
  try dsimp only
  rw [wp_bind]
  iapply (part12_run X κ c _ _ _)
  isplitl [HO Hw1 HwC Hd14 Hs8 Hr14]
  · isplitr; · iexact HE
    isplitl [HO]; · iexact HO
    isplitl [Hw1]; · iexact Hw1
    isplitl [HwC]; · iexact HwC
    isplitl [Hd14]; · iexact Hd14
    isplitl [Hs8]; · iexact Hs8
    isplitr; · iexact R8
    isplitl [Hr14]; · iexact Hr14
    iexact RR14
  iintro ⟨HO, Hc8, Hw1⟩
  try dsimp only
  rw [wp_bind]
  iapply (part13_run X c)
  isplitl [Hw1]
  · iexact Hw1
  iintro Hw1
  try dsimp only
  rw [wp_bind]
  iapply (part14_run X κ c _ _ _ _ _)
  isplitl [HO Hw1 Hd15 Hs9 Hr15]
  · isplitr; · iexact HE
    isplitl [HO]; · iexact HO
    isplitl [Hw1]; · iexact Hw1
    isplitl [Hd15]; · iexact Hd15
    isplitl [Hs9]; · iexact Hs9
    isplitr; · iexact R9
    isplitl [Hr15]; · iexact Hr15
    iexact RR15
  iintro ⟨HO, Hc9, HwB1, HwC1, HwD1⟩
  try dsimp only
  rw [wp_bind]
  iapply (part15_run X κ c _ _ _ _ _ _)
  isplitl [HO HwB1 Hd16 Hs10 Hr16 HwC1 Hd17 Hs11 Hr17 HwD HwD1 I7]
  · isplitr; · iexact HE
    isplitl [HO]; · iexact HO
    isplitl [HwB1 Hd16 Hs10 Hr16]
    · isplitl [HwB1]; · iexact HwB1
      isplitl [Hd16]; · iexact Hd16
      isplitl [Hs10]; · iexact Hs10
      isplitr; · iexact R10
      isplitl [Hr16]; · iexact Hr16
      iexact RR16
    isplitl [HwC1 Hd17 Hs11 Hr17]
    · isplitl [HwC1]; · iexact HwC1
      isplitl [Hd17]; · iexact Hd17
      isplitl [Hs11]; · iexact Hs11
      isplitr; · iexact R11
      isplitl [Hr17]; · iexact Hr17
      iexact RR17
    isplitl [HwD]; · iexact HwD
    isplitl [HwD1]; · iexact HwD1
    iexact I7
  iintro ⟨HO, Hc10, Hc11, HwD, I7⟩
  try dsimp only
  rw [wp_bind]
  iapply (part16_run X κ c _ _ _ _ _ _)
  isplitl [HO Hc12 Ha12 Hc15 Ha15 Hc13 Ha13 I7]
  · isplitr; · iexact HE
    isplitl [HO]; · iexact HO
    isplitl [Hc12 Ha12]
    · isplitl [Hc12]; · iexact Hc12
      iexact Ha12
    isplitl [Hc15 Ha15]
    · isplitl [Hc15]; · iexact Hc15
      iexact Ha15
    isplitl [Hc13 Ha13]
    · isplitl [Hc13]; · iexact Hc13
      iexact Ha13
    iexact I7
  iintro ⟨HO, Hv12, Hv15, Hv13, Hl, Hr, I7⟩
  try dsimp only
  rw [wp_bind]
  iapply (part17_run X κ c _ _ _ _ _ _)
  isplitl [HO Hc16 Ha16 Hc14 Ha14 Hr I7]
  · isplitr; · iexact HE
    isplitl [HO]; · iexact HO
    isplitl [Hc16 Ha16]
    · isplitl [Hc16]; · iexact Hc16
      iexact Ha16
    isplitl [Hc14 Ha14]
    · isplitl [Hc14]; · iexact Hc14
      iexact Ha14
    isplitl [Hr]; · iexact Hr
    iexact I7
  iintro %_ %_ ⟨HO, Hv16, Hv14, Hr, Ho, I7⟩
  try dsimp only
  rw [wp_bind]
  iapply (part18_run X κ c _ _ _ _)
  isplitl [HO Hc17 Ha17 Hc0 Ha0 Ho I7 H8]
  · isplitr; · iexact HE
    isplitl [HO]; · iexact HO
    isplitl [Hc17 Ha17]
    · isplitl [Hc17]; · iexact Hc17
      iexact Ha17
    isplitl [Hc0 Ha0]
    · isplitl [Hc0]; · iexact Hc0
      iexact Ha0
    isplitl [Ho]; · iexact Ho
    isplitl [I7]; · iexact I7
    iexact H8
  iintro ⟨HO, Hv17, Hv0, Ho, HgA, I7, H8⟩
  try dsimp only
  rw [wp_bind]
  iapply (part19_run X κ c)
  isplitl [HO Hc1 Ha1 Hc2 Ha2 Hc6 Ha6 Hc7 Ha7]
  · isplitr; · iexact HE
    isplitl [HO]; · iexact HO
    isplitl [Hc1 Ha1]
    · isplitl [Hc1]; · iexact Hc1
      iexact Ha1
    isplitl [Hc2 Ha2]
    · isplitl [Hc2]; · iexact Hc2
      iexact Ha2
    isplitl [Hc6 Ha6]
    · isplitl [Hc6]; · iexact Hc6
      iexact Ha6
    isplitl [Hc7]; · iexact Hc7
    iexact Ha7
  iintro ⟨HO, Hv1, HgB, Hv2, HgC, Hv6, HwA0, Hv7, HwB0⟩
  try dsimp only
  simp only [Prog.lift, Prog.bind_op, Prog.bind_ret, Prog.pure_eq_ret, Bind.bind, Prog.bind, xsend2, xsend3, xsend4, xsend5]
  iapply (wait_rule X κ c 8 0 _ rfl (wPt c 0 qC (own X c)) rfl (.inl rfl) (dst := lo A10) rfl) $$ [Hc8 HO Ha8]
  · isplitr; · iexact HE
    isplitl [Hc8]; · iexact Hc8
    isplitl [HO]; · iexact HO
    iexact Ha8
  iintro ⟨HO, Hv8, HwC0⟩
  iapply (wait_rule X κ c 9 0 _ rfl (wPt c 1 qA (own X c)) rfl (.inl rfl) (dst := hi A10) rfl) $$ [Hc9 HO Ha9]
  · isplitr; · iexact HE
    isplitl [Hc9]; · iexact Hc9
    isplitl [HO]; · iexact HO
    iexact Ha9
  iintro ⟨HO, Hv9, HwA1⟩
  iapply (wait_rule X κ c 10 0 _ rfl (wPt c 1 qB (own X c)) rfl (.inl rfl) (dst := hi A10) rfl) $$ [Hc10 HO Ha10]
  · isplitr; · iexact HE
    isplitl [Hc10]; · iexact Hc10
    isplitl [HO]; · iexact HO
    iexact Ha10
  iintro ⟨HO, Hv10, HwB1⟩
  iapply (wait_rule X κ c 11 0 _ rfl (wPt c 1 qC (own X c)) rfl (.inl rfl) (dst := hi A10) rfl) $$ [Hc11 HO Ha11]
  · isplitr; · iexact HE
    isplitl [Hc11]; · iexact Hc11
    isplitl [HO]; · iexact HO
    iexact Ha11
  iintro ⟨HO, Hv11, HwC1⟩
  rw [wp_ret]; imodintro
  iapply Hk
  isplitl [HO]; · iexact HO
  isplitl [I0 I1 I2 I3 I4 I5 I6 I7]
  · isplitl [I0]; · iexact I0
    isplitl [I1]; · iexact I1
    isplitl [I2]; · iexact I2
    isplitl [I3]; · iexact I3
    isplitl [I4]; · iexact I4
    isplitl [I5]; · iexact I5
    isplitl [I6]; · iexact I6
    iexact I7
  isplitl [H8]; · iexact H8
  isplitl [HgA HgB HgC HgD Hg1 Hg2 Hg3 HwA0 HwB0 HwC0 HwA1 HwB1 HwC1 HwD Hl Hr Ho]
  · isplitl [HgA HgB HgC HgD Hg1 Hg2 Hg3]
    · iexists _; iapply (g_back c (comm X c))
      isplitl [HgA]; · iexact HgA
      isplitl [HgB]; · iexact HgB
      isplitl [HgC]; · iexact HgC
      isplitl [HgD]; · iexact HgD
      isplitl [Hg1]; · iexact Hg1
      isplitl [Hg2]; · iexact Hg2
      iexact Hg3
    isplitl [HwA0 HwB0 HwC0 HwA1 HwB1 HwC1 HwD]
    · iexists _; iapply (w_back c (own X c))
      isplitl [HwA0 HwB0 HwC0]
      · isplitl [HwA0]; · iexact HwA0
        isplitl [HwB0] <;> iassumption
      isplitl [HwA1 HwB1 HwC1]
      · isplitl [HwA1]; · iexact HwA1
        isplitl [HwB1] <;> iassumption
      iexact HwD
    isplitl [Hl]; · iexists _; iexact Hl
    isplitl [Hr]; · iexists _; iexact Hr
    iexists _; iexact Ho
  isplitl [HvB]; · iexact HvB
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  isplitl [Hv7]; · iexact Hv7
  isplitl [Hv8]; · iexact Hv8
  isplitl [Hv9]; · iexact Hv9
  isplitl [Hv10]; · iexact Hv10
  isplitl [Hv11]; · iexact Hv11
  isplitl [Hv12]; · iexact Hv12
  isplitl [Hv13]; · iexact Hv13
  isplitl [Hv14]; · iexact Hv14
  isplitl [Hv15]; · iexact Hv15
  isplitl [Hv16]; · iexact Hv16
  iexact Hv17

end Cert.KernelIdeal.P

end
-- ==== Proof.Region.lean ====
/- The kernel region of @main on one device, as a segment: what the windows' arrays hold before and after it, what
   its body is given and leaves, and the opening of the copy cells at its entry. -/
module

public import proofs.«01_k».proof.Proof.Body
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.ValueKit.Geometry

@[expose] public section

set_option maxRecDepth 16384

noncomputable section

namespace Cert.KernelIdeal.P

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (κ : GSem nD τ sig → ℕ) (c : Dev nD)

/-! ## What the region finds and leaves -/

/-- What the kernel is handed on each device: what the host stretch left in the eight operands. -/
def XX (d : Dev nD) : Inp F where
  x := V1 m d main_v32
  wdkv := V1 m d main_v33
  wuk := V1 m d main_v34
  wuv := V1 m d main_v35
  wq := V1 m d main_v36
  wqr := V1 m d main_v37
  wkr := V1 m d main_v38
  wo := V1 m d main_v39

/-- What the region leaves in its result. -/
def outs : Outs (F := F) := fun _ r d => if h : r = main_v40 then h ▸ outC (XX m) d else V1 m d r
theorem outs_v40 (k : ℕ) : outs m k main_v40 c = outC (XX m) c := dif_pos rfl

/-- What enters the body, and what it leaves, its buffers apart. -/
def Xk : sProp 𝕄 := iprop((∃ κ, env (XX m) κ) ∗ start c)
def Yk : sProp 𝕄 := semVal (barCell c) 0

def dat0 : Dat τ (Elt F) Unit ℕ UU ℕ cfg0 c where
  A w := V1 m c (Pipeline.arrRef spec0 w)
  after w _ := match w with
    | ⟨0, _⟩ => (XX m c).x
    | ⟨1, _⟩ => (XX m c).wdkv
    | ⟨2, _⟩ => (XX m c).wuk
    | ⟨3, _⟩ => (XX m c).wuv
    | ⟨4, _⟩ => (XX m c).wq
    | ⟨5, _⟩ => (XX m c).wqr
    | ⟨6, _⟩ => (XX m c).wkr
    | ⟨7, _⟩ => (XX m c).wo
    | ⟨8, _⟩ => outC (XX m) c
  Φ t := if t.val = 0 then iprop(Xk m c ∗ scratch c ∗ ∃ r, prngReg c r)
    else iprop(Yk c ∗ zeros c ∗ scratch c ∗ ∃ r, prngReg c r)
  q _ := fullShare
  owed t := if t.val = 0 then owed c 15 else 0

def pdats : (p : Fin 1) → (c : Dev nD) → Dat τ (Elt F) Unit ℕ UU ℕ (Pipeline.pin (pcfgs (F := F)) adm p) c
  | 0 => dat0 m

theorem phi_first : (dat0 m c).Φ 0 = iprop(Xk m c ∗ scratch c ∗ ∃ r, prngReg c r) := rfl
theorem phi_last : (dat0 m c).Φ (Fin.last cfg0.N) = iprop(Yk c ∗ zeros c ∗ scratch c ∗ ∃ r, prngReg c r) := rfl
theorem owed_first : (dat0 m c).owed 0 = owed c 15 := rfl
theorem owed_last : (dat0 m c).owed (Fin.last cfg0.N) = 0 := rfl

/-! ## The windows' blocks are their arrays -/

theorem before_0 (d) : (dat0 m c).before 0 t0_0 d = (XX m c).x := by
  unfold Dat.before; rw [if_pos (by decide)]
  exact funext fun i => congrArg (XX m c).x (funext fun a => Fin.ext (Pipeline.Window.rect_emb_val_of_index_zero (cfg0.win 0) t0_0 a rfl i))
theorem before_1 (d) : (dat0 m c).before 1 t0_0 d = (XX m c).wdkv := by
  unfold Dat.before; rw [if_pos (by decide)]
  exact funext fun i => congrArg (XX m c).wdkv (funext fun a => Fin.ext (Pipeline.Window.rect_emb_val_of_index_zero (cfg0.win 1) t0_0 a rfl i))
theorem before_2 (d) : (dat0 m c).before 2 t0_0 d = (XX m c).wuk := by
  unfold Dat.before; rw [if_pos (by decide)]
  exact funext fun i => congrArg (XX m c).wuk (funext fun a => Fin.ext (Pipeline.Window.rect_emb_val_of_index_zero (cfg0.win 2) t0_0 a rfl i))
theorem before_3 (d) : (dat0 m c).before 3 t0_0 d = (XX m c).wuv := by
  unfold Dat.before; rw [if_pos (by decide)]
  exact funext fun i => congrArg (XX m c).wuv (funext fun a => Fin.ext (Pipeline.Window.rect_emb_val_of_index_zero (cfg0.win 3) t0_0 a rfl i))
theorem before_4 (d) : (dat0 m c).before 4 t0_0 d = (XX m c).wq := by
  unfold Dat.before; rw [if_pos (by decide)]
  exact funext fun i => congrArg (XX m c).wq (funext fun a => Fin.ext (Pipeline.Window.rect_emb_val_of_index_zero (cfg0.win 4) t0_0 a rfl i))
theorem before_5 (d) : (dat0 m c).before 5 t0_0 d = (XX m c).wqr := by
  unfold Dat.before; rw [if_pos (by decide)]
  exact funext fun i => congrArg (XX m c).wqr (funext fun a => Fin.ext (Pipeline.Window.rect_emb_val_of_index_zero (cfg0.win 5) t0_0 a rfl i))
theorem before_6 (d) : (dat0 m c).before 6 t0_0 d = (XX m c).wkr := by
  unfold Dat.before; rw [if_pos (by decide)]
  exact funext fun i => congrArg (XX m c).wkr (funext fun a => Fin.ext (Pipeline.Window.rect_emb_val_of_index_zero (cfg0.win 6) t0_0 a rfl i))
theorem before_7 (d) : (dat0 m c).before 7 t0_0 d = (XX m c).wo := by
  unfold Dat.before; rw [if_pos (by decide)]
  exact funext fun i => congrArg (XX m c).wo (funext fun a => Fin.ext (Pipeline.Window.rect_emb_val_of_index_zero (cfg0.win 7) t0_0 a rfl i))

/-! ## The body, as the region runs it -/

omit [FloatOps F] in
theorem owns_whole (d : Dev nD) (b : Ref sig .tc) (f : b.ty.Contents (Elt F)) :
    (owns (Ix := Unit) (Name := ℕ) (U := UU) (Lvl := ℕ) (d : Thread nD τ) (Memref.whole b) fullShare f : sProp 𝕄)
      = iprop(∃ g : Buf (Elt F) ((d : Thread nD τ).loc b), ⌜g = f⌝ ∗ (((d : Thread nD τ).loc b) ↦{fullShare} g)) := by
  unfold owns; simp only [Memref.view_whole, View.read_whole, View.set_whole]

omit [FloatOps F] in
theorem owesAt_intro {cfg : Pipeline.Cfg sig Λ₀} {d : Dev nD} (dat : Dat τ (Elt F) Unit ℕ UU ℕ cfg d) (t : Fin (cfg.N + 1)) (n : ℕ)
    (h0 : dat.owed t = owed d n) (hr : dat.recorded t = Set.univ) : (Ow d n : sProp 𝕄) ⊢ (dat.owesAt () t : sProp 𝕄) := by
  unfold Dat.owesAt Pipeline.owesWithin Dat.bound Ow; rw [h0, hr]
  iintro ⟨%W, HO⟩; iexists W; isplitr; · ipureintro; exact fun _ _ => Or.inl trivial
  iexact HO

omit [FloatOps F] in
theorem owesAt_elim {cfg : Pipeline.Cfg sig Λ₀} {d : Dev nD} (dat : Dat τ (Elt F) Unit ℕ UU ℕ cfg d) (t : Fin (cfg.N + 1)) (n : ℕ)
    (h0 : dat.owed t = owed d n) : (dat.owesAt () t : sProp 𝕄) ⊢ Ow d n := by
  unfold Dat.owesAt Pipeline.owesWithin Ow; rw [h0]
  iintro ⟨%W, -, HO⟩; iexists W; iexact HO

set_option maxHeartbeats 2000000 in
theorem body_ok : BodyObligation (dat0 (F := F) m c) (defs₀ (F := F)) 𝒱₀ () Set.univ := fun t => by
  obtain rfl := fin_N0 t
  rw [bigSep_W0, bigSep_W0]
  simp only [owns_whole]
  rw [show (dat0 m c).Φ t0_0.castSucc = iprop(Xk m c ∗ scratch c ∗ ∃ r, prngReg c r) from rfl,
    show (dat0 m c).Φ t0_0.succ = iprop(Yk c ∗ zeros c ∗ scratch c ∗ ∃ r, prngReg c r) from rfl]
  show _ ⊢ wp frame (wpE (defs₀ (F := F)) 𝒱₀ (c : Thread nD τ) none) Set.univ (cc0__body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch5 cc0_scratch6 cc0_scratch7 cc0_scratch8) _
  rw [cc0__body_eq_skeleton]; unfold cc0__body_skel
  rw [wp_bind]
  unfold Xk Yk
  iintro ⟨⟨⟨⟨%κ, He⟩, Hst⟩, Hs, Hp⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  replace hf0 := hf0.trans (before_0 m c d0)
  replace hf1 := hf1.trans (before_1 m c d1)
  replace hf2 := hf2.trans (before_2 m c d2)
  replace hf3 := hf3.trans (before_3 m c d3)
  replace hf4 := hf4.trans (before_4 m c d4)
  replace hf5 := hf5.trans (before_5 m c d5)
  replace hf6 := hf6.trans (before_6 m c d6)
  replace hf7 := hf7.trans (before_7 m c d7)
  subst hf0 hf1 hf2 hf3 hf4 hf5 hf6 hf7
  ihave HO := (owesAt_elim (dat0 m c) t0_0.castSucc 15 (owed_first m c)) $$ HO
  iapply (kernel_run (XX m) κ c)
  isplitr [Hp]
  · isplitl [He]; · iexact He
    isplitl [HO]; · iexact HO
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists f8; iexact H8
    isplitl [Hs]; · iexact Hs
    iexact Hst
  unfold ins
  iintro ⟨HO, ⟨H0, H1, H2, H3, H4, H5, H6, H7⟩, H8, Hs, Hb, Hz⟩
  rw [wp_pure]; imodintro
  isplitl [Hb Hz Hs Hp]
  · isplitl [Hb]; · iexact Hb
    isplitl [Hz]; · iexact Hz
    isplitl [Hs]; · iexact Hs
    iexact Hp
  isplitl [HO]; · iapply (owesAt_intro (dat0 m c) t0_0.succ 0 (owed_last m c) rfl); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  iexists _; isplitr; swap; (· iexact H8); ipureintro; rfl

end Cert.KernelIdeal.P

end
-- ==== Proof.Segment.lean ====
/- The kernel region as a segment of the run of @main: the copy cells opened at its entry, the arrays taken from
   the unscoped buffers and put back. -/
module

public import proofs.«01_k».proof.Proof.Region

@[expose] public section

set_option maxRecDepth 16384

noncomputable section

namespace Cert.KernelIdeal.P

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (κ : GSem nD τ sig → ℕ) (c : Dev nD)

/-! ## What a device keeps of the launch until the region -/

/-- Its place in the round of its barrier cell, the right to open each of its copy cells, and its rights to pay. -/
def linear : sProp 𝕄 :=
  iprop(atPos ER (barCell c) 0 ∅ 0 ∗ (bigSep Finset.univ fun j : Fin 18 => openTok ER (dCell j c)) ∗ barToks c ∗ sendToks c ∗ recvToks c)
def Tk : sProp 𝕄 := iprop((∃ κ, records (XX m) κ ∗ linear c) ∗ cred (tallyAt (barCell c) () 6) ∗ recvCreds c)

theorem cells_open (X : Dev nD → Inp F) :
    iprop(records X κ ∗ (bigSep Finset.univ fun j : Fin 18 => openTok ER (dCell j c)) ∗ zeros c) ⊢ (|={Set.univ}=> cells0 c : sProp 𝕄) := by
  refine BI.Entails.trans ?_ (bigSep_fupd (Finset.univ : Finset (Fin 18)) fun j => iprop(atPos ER (dCell j c) 0 ∅ 0 ∗ reached ER (dCell j c) 0))
  unfold zeros
  rw [← bigSep_sep']
  refine bigSep_with_persistent fun j _ => ?_
  iintro ⟨HR, Ho, Hv⟩
  iapply (Rounds.cell_open ER (Rd X) (g := dCell j c) (Set.mem_univ (κ (dCell j c))))
  isplitl [HR]; · iapply (rec_d X κ j c); iexact HR
  isplitl [Ho] <;> iassumption

theorem hopen : iprop(Tk m c ∗ Pipeline.ownSems0 osem c ∗ levAts L lv) ⊢ (|={Set.univ}=> Xk m c : sProp 𝕄) := by
  rw [show (Pipeline.ownSems0 osem c : sProp 𝕄) = zeros c from rfl]
  unfold Tk Xk linear env start
  iintro ⟨⟨⟨%κ, #HR, Hb, Ho, Ht, Hs, Hr⟩, Hc, Hcr⟩, Hz, Hl⟩
  imod (cells_open κ c (XX m)) $$ [Ho Hz] with H0
  · isplitr; · iexact HR
    isplitl [Ho] <;> iassumption
  imodintro
  isplitl [Hl]
  · iexists κ; isplitr; · iexact HR
    iexact Hl
  isplitl [Hc]; · iexact Hc
  isplitl [Hb]; · iexact Hb
  isplitl [Ht]; · iexact Ht
  isplitl [Hs]; · iexact Hs
  isplitl [Hr]; · iexact Hr
  isplitl [Hcr] <;> iassumption

/-! ## Into the body, and out of it -/

theorem rest_eq : (Pipeline.scopedRest (Ix := Unit) (Name := ℕ) (U := UU) (Lvl := ℕ) (Val := Elt F) (Pipeline.pin (pcfgs (F := F)) adm 0).spec c : sProp 𝕄)
    = scratch c := by
  unfold scratch; exact scopedRest0_eq c

theorem held_none (W : Valuation τ sig (Elt F)) : (StableHlo.held (c.tc : Thread nD τ) ∅ W : sProp 𝕄) = BI.emp := by
  unfold StableHlo.held; exact BI.bigSep_empty

theorem hin : iprop(Pipeline.scopedRest (Pipeline.pin (pcfgs (F := F)) adm 0).spec c ∗ (∃ r, prngReg c r) ∗ StableHlo.held (c.tc : Thread nD τ) ∅ (V1 m c) ∗ Xk m c)
    ⊢ (pdats m 0 c).Φ 0 := by
  rw [show (pdats m 0 c).Φ 0 = iprop(Xk m c ∗ scratch c ∗ ∃ r, prngReg c r) from rfl, rest_eq]
  iintro ⟨Hs, Hp, -, HX⟩
  isplitl [HX]; · iexact HX
  isplitl [Hs] <;> iassumption

theorem hout : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c)
        ∗ Pipeline.ownSems0 osem c ∗ Yk c) := by
  rw [show (pdats m 0 c).Φ (Fin.last _) = iprop(Yk c ∗ zeros c ∗ scratch c ∗ ∃ r, prngReg c r) from rfl, rest_eq, held_none,
    show (Pipeline.ownSems0 osem c : sProp 𝕄) = zeros c from rfl]
  iintro ⟨Hy, Hz, Hs, Hp⟩
  isplitl [Hs]; · iexact Hs
  isplitl [Hp]; · iexact Hp
  isplitr; · iempintro
  isplitl [Hz]; · iexact Hz
  iexact Hy

/-! ## The arrays after the region -/

theorem arr_out : (dat0 m c).arrAt 8 cfg0.N = outC (XX m) c := by
  refine Dat.arrAt_eq_of_after_last (dat0 m c) 8 t0_0 (by decide +kernel) (outC (XX m) c) fun j => ?_
  rfl

theorem v40_after : V2 m (outs m) c (Proc.devRef .tc main_v40) = outs m 2 main_v40 c := Function.update_self ..

theorem inputs : ∀ w : Fin 9, w ≠ 8 → (cfg0.win w).isOut = false ∧ Pipeline.arrRef spec0 w ∉ ([main_v40] : List (Ref sig .tc)) := by decide

theorem arr_after (w : Fin 9) : (dat0 m c).arrAt w cfg0.N = V2 m (outs m) c (Proc.devRef .tc (Pipeline.arrRef spec0 w)) := by
  by_cases h : w = 8
  · subst h; exact (arr_out m c).trans ((outs_v40 m c 2).symm.trans (v40_after m c).symm)
  · exact ((dat0 m c).arrAt_in w (inputs w h).1 _).trans (V2_of m (outs m) c _ (inputs w h).2).symm

/-! ## The segment -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The unscoped buffers that are no array of the region's windows. -/
abbrev others : Finset (DevRef τ sig) := Pipeline.ucRefs τ sig \ Pipeline.arrRefs (pcfgs (F := F) 0).spec

theorem v40_arr : (Proc.devRef .tc main_v40 : DevRef τ sig) ∈ Pipeline.arrRefs (τ := τ) (pcfgs (F := F) 0).spec := by
  unfold Pipeline.arrRefs
  exact Finset.mem_map_of_mem _ (Finset.mem_image.mpr ⟨(8 : Fin 9), Finset.mem_univ _, rfl⟩)

theorem others_same (b : DevRef τ sig) (hb : b ∈ others (F := F) \ ∅) : V2 m (outs m) c b = V1 m c b := by
  rw [Finset.sdiff_empty] at hb
  refine Function.update_of_ne ?_ _ _
  rintro rfl
  exact (Finset.mem_sdiff.mp hb).2 (v40_arr (F := F))

theorem staging_lv (w : Fin 9) (s : Fin ((cfg0.win w).nbuf)) : lv ((c : Thread nD τ), .dma ((cfg0.win w).sem s)) () ≤ 0 := by
  fin_cases w <;> fin_cases s <;> exact le_of_eq rfl

theorem cut (t : Fin (cfg0.N + 1)) (g : GSem nD τ sig) (i : Unit) (h : 0 < (dat0 m c).owed t g i) : i ∈ L g ∧ (0 : ℕ) < lv g i := by
  have e : (dat0 m c).owed t = if t.val = 0 then owed c 15 else 0 := rfl
  rw [e] at h
  split at h
  · obtain ⟨n, -, rfl⟩ := owed_pos c 15 g i h
    exact ⟨by unfold L; rw [if_pos (due_tc c n)]; exact Finset.mem_singleton_self _, (lv_due c n).2.2⟩
  · exact absurd h (Nat.lt_irrefl 0)

local notation "ℝ𝕊" => Pipeline.RegionSeg (pcfgs (F := F)) adm (pdats m) () defs₀ 𝒱₀ L lv

set_option backward.isDefEq.respectTransparency.types false in
def reg0 : ℝ𝕊 0 :=
  Pipeline.RegionSeg.ofTalk (pcfgs (F := F)) adm (pdats m) () defs₀ 𝒱₀ L lv 0 osem (by decide : Pipeline.OwnSemFacts spec0 osem)
    ∅ (others (F := F)) (Finset.empty_subset _) kit rfl (fun c => (body_ok m c).loose)
    (fun _ => 0) (fun c => owed c 15) (fun c => (owed_first m c).trans (zero_add _).symm) (owed_last m) (fun _ => rfl)
    (fun c w => by unfold Dat.share; split <;> rfl)
    (V1 m) (V2 m (outs m)) (others_same m)
    (Tk m) Yk (Xk m) Yk (hopen m) (hin m) (hout m)
    (fun c => by iintro H; imodintro; iexact H)
    (fun _ => 0)
    ⟨fun c w s => by rw [L_tc]; exact Finset.mem_singleton_self _, fun c w s => staging_lv c w s, fun c t g i h => cut m c t g i h⟩
    (fun _ => iprop(emp))
    (fun _ _ => rfl) (fun c w => arr_after m c w)

/-! ## Between the segments -/

/-- What rides beside the unscoped buffers before the region, and after it. -/
def Ride : sProp 𝕄 := iprop((∃ r, prngReg c r) ∗ Tk m c ∗ Ow c 15)
def Left : sProp 𝕄 := iprop(semVal (barCell c) 0 ∗ Ow c 0)

theorem arr_sub : Pipeline.arrRefs (τ := τ) (pcfgs (F := F) 0).spec ⊆ Pipeline.ucRefs τ sig :=
  Pipeline.arrRefs_sub_ucRefs _ winFacts0.arr_unscoped

theorem reg_pre : iprop(StableHlo.held (c : Thread nD τ) (Pipeline.ucRefs τ sig) (V1 m c) ∗ Ride m c) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (others (F := F)) (V1 m c) ∗ emp) ∗ Tk m c ∗ ∃ Wd, owes (c : Thread nD τ) (0 + owed c 15) Wd)
  rw [StableHlo.held_sub_split (c : Thread nD τ) (arr_sub (F := F)), zero_add]
  unfold Ride Ow
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg_post : (reg0 m).post c ⊢ iprop(StableHlo.held (c : Thread nD τ) (Pipeline.ucRefs τ sig) (V2 m (outs m) c) ∗ Left c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (others (F := F)) (V2 m (outs m) c) ∗ emp) ∗ Yk c ∗ ∃ Wd, owes (c : Thread nD τ) (0 : CellTallies nD τ sig Unit) Wd) ⊢ _
  rw [StableHlo.held_sub_split (c : Thread nD τ) (arr_sub (F := F))]
  unfold Left Ow Yk
  iintro ⟨Ha, -, ⟨Hr, -⟩, Hb, HO⟩
  isplitl [Ha Hr]; · isplitl [Ha] <;> iassumption
  isplitl [Hb]; · iexact Hb
  iexact HO

end Cert.KernelIdeal.P

end
-- ==== Proof.Launch.lean ====
/- The launch: every cell's invariant made, the rights to pay and the units to come dealt to the sixteen devices, and the
   run of the whole program from it. -/
module

public import proofs.«01_k».proof.Proof.Segment

@[expose] public section

set_option maxRecDepth 16384

noncomputable section

namespace Cert.KernelIdeal.P

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (κ : GSem nD τ sig → ℕ) (c : Dev nD)

/-! ## The rights to pay -/

/-- The cells a device is paid at, one entry per payment: six barrier units, nine copies sent, nine received. -/
def tcell : Fin 6 ⊕ (Fin 9 ⊕ Fin 9) → SemLoc sig × Fin 6
  | .inl k => (.reg barS, k)
  | .inr (.inl k) => (osem (sj k), 0)
  | .inr (.inr k) => (osem (rj k), 0)
theorem tcell_inj : Function.Injective tcell := by decide

def allToks : Finset (GSem nD τ sig × ℕ × Fin 6) :=
  Finset.univ.map ⟨fun p : Dev nD × (Fin 6 ⊕ (Fin 9 ⊕ Fin 9)) => (((p.1 : Thread nD τ), (tcell p.2).1), 0, (tcell p.2).2), fun _ _ h =>
    Prod.ext (congrArg (fun t : GSem nD τ sig × ℕ × Fin 6 => t.1.1.1) h)
      (tcell_inj (Prod.ext (congrArg (fun t : GSem nD τ sig × ℕ × Fin 6 => t.1.2) h) (congrArg (fun t : GSem nD τ sig × ℕ × Fin 6 => t.2.2) h)))⟩

theorem toks_eq : bigSep allToks (fun x => (dutyTok ER x.1 x.2.1 x.2.2 : sProp 𝕄))
    = iprop((bigSep Finset.univ fun d : Dev nD => bigSep Finset.univ fun k : Fin 6 => dutyTok ER (barCell d) 0 k)
        ∗ (bigSep Finset.univ fun d : Dev nD => sendToks d)
        ∗ (bigSep Finset.univ fun d : Dev nD => bigSep Finset.univ fun k : Fin 9 => dutyTok ER (dCell (rj k) d) 0 0)) := by
  unfold allToks sendToks; rw [bigSep_map, bigSep_univ_prod, ← bigSep_sep', ← bigSep_sep']
  refine bigSep_congr fun d _ => ?_
  rw [bigSep_univ_sum, bigSep_univ_sum]
  rfl

omit [FloatOps F] in
/-- What each device holds of itself, handed to the device a permutation names. -/
theorem around {I : Type} [Fintype I] (e : I → Dev nD ≃ Dev nD) (Φ : I → Dev nD → sProp 𝕄) :
    (bigSep Finset.univ fun d : Dev nD => bigSep Finset.univ fun k : I => Φ k d)
      = bigSep Finset.univ fun d : Dev nD => bigSep Finset.univ fun k : I => Φ k (e k d) := by
  rw [bigSep_univ_comm (fun (d : Dev nD) (k : I) => Φ k d), bigSep_univ_comm (fun (d : Dev nD) (k : I) => Φ k (e k d))]
  exact bigSep_congr fun k _ => bigSep_univ_equiv (e k) (Φ k)

theorem toks_deal : bigSep allToks (fun x => (dutyTok ER x.1 x.2.1 x.2.2 : sProp 𝕄))
    ⊢ bigSep Finset.univ fun d : Dev nD => iprop(barToks d ∗ sendToks d ∗ recvToks d) := by
  rw [toks_eq, bigSep_sep', bigSep_sep',
    around (fun k => peerE k) (fun k d => dutyTok ER (barCell d) 0 k),
    around (fun k => peerE (cp k)) (fun k d => dutyTok ER (dCell (rj k) d) 0 0)]
  exact BI.Entails.refl _

/-! ## The units to come -/

theorem owed_all (d : Dev nD) : owed d 15 = (∑ k : Fin 6, tallyAt (barCell (peer k d)) () 1)
    + ∑ k : Fin 9, tallyAt (dCell (rj k) (peer (cp k) d)) () (amt (rj k)) := by
  have h : owed d 15 = ((((((((((((((((0 : CellTallies nD τ sig Unit) + tallyAt (dCell 17 (op d)) () NX) + tallyAt (dCell 16 (lf d)) () NX)
      + tallyAt (dCell 15 (rt d)) () NX) + tallyAt (dCell 14 (op d)) () NX) + tallyAt (dCell 13 (lf d)) () NX) + tallyAt (dCell 12 (rt d)) () NX)
      + tallyAt (dCell 3 (zsh 3 d)) () NZ) + tallyAt (dCell 4 (zsh 2 d)) () NZ) + tallyAt (dCell 5 (zsh 1 d)) () NZ)
      + tallyAt (barCell (op d)) () 1) + tallyAt (barCell (lf d)) () 1) + tallyAt (barCell (rt d)) () 1)
      + tallyAt (barCell (zsh 3 d)) () 1) + tallyAt (barCell (zsh 2 d)) () 1) + tallyAt (barCell (zsh 1 d)) () 1) := rfl
  have h6 : (∑ k : Fin 6, tallyAt (barCell (peer k d)) () 1 : CellTallies nD τ sig Unit)
      = tallyAt (barCell (zsh 1 d)) () 1 + (tallyAt (barCell (zsh 2 d)) () 1 + (tallyAt (barCell (zsh 3 d)) () 1
        + (tallyAt (barCell (rt d)) () 1 + (tallyAt (barCell (lf d)) () 1 + tallyAt (barCell (op d)) () 1)))) := by
    simp only [Fin.sum_univ_succ, Fin.sum_univ_zero, add_zero]; rfl
  have h9 : (∑ k : Fin 9, tallyAt (dCell (rj k) (peer (cp k) d)) () (amt (rj k)) : CellTallies nD τ sig Unit)
      = tallyAt (dCell 5 (zsh 1 d)) () NZ + (tallyAt (dCell 4 (zsh 2 d)) () NZ + (tallyAt (dCell 3 (zsh 3 d)) () NZ
        + (tallyAt (dCell 12 (rt d)) () NX + (tallyAt (dCell 13 (lf d)) () NX + (tallyAt (dCell 14 (op d)) () NX
        + (tallyAt (dCell 15 (rt d)) () NX + (tallyAt (dCell 16 (lf d)) () NX + tallyAt (dCell 17 (op d)) () NX))))))) := by
    simp only [Fin.sum_univ_succ, Fin.sum_univ_zero, add_zero]; rfl
  rw [h, h6, h9, zero_add]; ac_rfl

/-- Of what all devices owe one of their peers' cells of a kind, one device's cell gets one share. -/
theorem sum_tally (p : Fin 6) (s s' : SemLoc sig) (n : ℕ) :
    (∑ d : Dev nD, (tallyAt (((peer p d : Dev nD) : Thread nD τ), s) () n : CellTallies nD τ sig Unit) ((c : Thread nD τ), s') ())
      = if s' = s then n else 0 := by
  rw [show (∑ d : Dev nD, (tallyAt (((peer p d : Dev nD) : Thread nD τ), s) () n : CellTallies nD τ sig Unit) ((c : Thread nD τ), s') ())
      = ∑ d : Dev nD, (tallyAt ((d : Thread nD τ), s) () n : CellTallies nD τ sig Unit) ((c : Thread nD τ), s') () from
      Equiv.sum_comp (peerE p) fun d => (tallyAt ((d : Thread nD τ), s) () n : CellTallies nD τ sig Unit) ((c : Thread nD τ), s') (),
    Finset.sum_eq_single c]
  · rw [tallyAt_apply]
    by_cases h : s' = s
    · subst h; rw [if_pos ⟨rfl, rfl⟩, if_pos rfl]
    · rw [if_neg (fun e => h (congrArg Prod.snd e.1)), if_neg h]
  · intro d _ hd
    rw [tallyAt_apply, if_neg (fun e => hd (congrArg (fun g : GSem nD τ sig => g.1.1) e.1).symm)]
  · exact fun h => absurd (Finset.mem_univ c) h

theorem owed_sum (s' : SemLoc sig) : (∑ d : Dev nD, owed d 15 ((c : Thread nD τ), s') ())
    = (∑ _k : Fin 6, if s' = .reg barS then 1 else 0) + ∑ k : Fin 9, if s' = osem (rj k) then amt (rj k) else 0 := by
  rw [Finset.sum_congr rfl fun d _ => show owed d 15 ((c : Thread nD τ), s') ()
      = (∑ k : Fin 6, (tallyAt (barCell (peer k d)) () 1 : CellTallies nD τ sig Unit) ((c : Thread nD τ), s') ())
        + ∑ k : Fin 9, (tallyAt (dCell (rj k) (peer (cp k) d)) () (amt (rj k)) : CellTallies nD τ sig Unit) ((c : Thread nD τ), s') () by
      rw [owed_all, Pi.add_apply, Finsupp.add_apply, Finset.sum_apply, Finsupp.finsetSum_apply, Finset.sum_apply, Finsupp.finsetSum_apply],
    Finset.sum_add_distrib, Finset.sum_comm, Finset.sum_comm (s := (Finset.univ : Finset (Dev nD))) (t := (Finset.univ : Finset (Fin 9)))]
  exact congrArg₂ _ (Finset.sum_congr rfl fun k _ => sum_tally c k _ s' 1) (Finset.sum_congr rfl fun k _ => sum_tally c (cp k) _ s' _)

abbrev dues (d : Dev nD) : CellTallies nD τ sig Unit := owed d 15

theorem credit_at (s : SemLoc sig) (n : ℕ) (h : (∑ d : Dev nD, owed d 15 ((c : Thread nD τ), s) ()) = n) :
    tallyOn ((c : Thread nD τ), s) (launchCredit (Pipeline.owing dues) 0 ((c : Thread nD τ), s))
      = (tallyAt ((c : Thread nD τ), s) () n : CellTallies nD τ sig Unit) := by
  unfold tallyAt; refine congrArg _ (Finsupp.ext fun u => ?_); cases u
  rw [Pipeline.launchCredit_owing, Finsupp.single_eq_same, h]

theorem rj_inj : Function.Injective rj := by decide

theorem credit_bar : (∑ d : Dev nD, owed d 15 (barCell c) ()) = 6 := by
  rw [owed_sum]
  simp only [if_pos, if_neg (osem_ne_bar _).symm, Finset.sum_const, Finset.card_univ, Fintype.card_fin, smul_zero, add_zero]
  rfl

theorem credit_recv (k : Fin 9) : (∑ d : Dev nD, owed d 15 (dCell (rj k) c) ()) = amt (rj k) := by
  rw [owed_sum, Finset.sum_eq_zero fun _ _ => if_neg (osem_ne_bar (rj k)), zero_add, Finset.sum_eq_single k]
  · exact if_pos rfl
  · exact fun j _ hj => if_neg fun e => hj (rj_inj (osem_inj e)).symm
  · exact fun h => absurd (Finset.mem_univ k) h

def recvEmb : Fin 9 ↪ SemLoc sig := ⟨fun k => osem (rj k), fun _ _ h => rj_inj (osem_inj h)⟩

theorem creds : (Pipeline.launchCred dues c : sProp 𝕄) ⊢ iprop(cred (tallyAt (barCell c) () 6) ∗ recvCreds c) := by
  unfold Pipeline.launchCred recvCreds
  rw [bigSep_univ_at _ (SemLoc.reg barS), credit_at c _ 6 (credit_bar c)]
  refine sep_mono_right ?_
  have hs : Finset.univ.map recvEmb ⊆ (Finset.univ : Finset (SemLoc sig)).erase (SemLoc.reg barS) := fun s hs => by
    obtain ⟨k, -, rfl⟩ := Finset.mem_map.mp hs
    exact Finset.mem_erase.mpr ⟨osem_ne_bar _, Finset.mem_univ _⟩
  refine (bigSep_subset hs).trans ?_
  rw [bigSep_map]
  exact bigSep_mono fun k _ => by
    rw [show (recvEmb k : SemLoc sig) = osem (rj k) from rfl, credit_at c _ _ (credit_recv c k)]
    exact BI.Entails.refl _

/-! ## The ghost state at launch -/

theorem disjoint_cells : Disjoint (barCells : Finset (GSem nD τ sig)) scCells := by
  rw [Finset.disjoint_left]
  rintro g h₁ h₂
  obtain ⟨d, -, rfl⟩ := Finset.mem_map.mp h₁
  obtain ⟨p, -, h⟩ := Finset.mem_map.mp h₂
  exact osem_ne_bar p.2 (congrArg Prod.snd h)

def u₀ : UU :=
  (initOf (Pipeline.cells (Pipeline.pin (pcfgs (F := F)) adm) cellOf_inj) (Pipeline.launchToks (Pipeline.pin (pcfgs (F := F)) adm) cellOf_inj),
    launchOf barCells scCells allToks)

/-- A resource lying whole on device 0. -/
def atZero (P : sProp 𝕄) (d : Dev nD) : sProp 𝕄 := if d = 0 then P else iprop(emp)
omit [FloatOps F] in
theorem atZero_all (P : sProp 𝕄) : bigSep Finset.univ (atZero P) = P := by
  rw [bigSep_univ_at _ (0 : Dev nD), bigSep_congr (s := Finset.univ.erase (0 : Dev nD)) (Ψ := fun _ => (BI.emp : sProp 𝕄))
      fun d hd => by unfold atZero; rw [if_neg (Finset.ne_of_mem_erase hd)]; rfl, BI.bigSep_emp_const]
  unfold atZero; rw [if_pos rfl]
  exact BI.equiv_iff.mp sep_emp

def ghost : sProp 𝕄 := BI.own (ER (launchOf barCells scCells allToks))

theorem unscoped_eq : ∀ sm : SemLoc sig, sm.isScoped .tc = false → sm = .reg barS := by decide

theorem sems_eq : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The deal -/

/-- What of a device's launch holdings is not the protocol's own. -/
def bundle : sProp 𝕄 :=
  iprop(StableHlo.held (c : Thread nD τ) (Pipeline.ucRefs τ sig) (V0 m c) ∗ (cred (tallyAt (barCell c) () 6) ∗ recvCreds c)
    ∗ owes (c : Thread nD τ) (dues c) ∅ ∗ ∃ r, prngReg c r)

abbrev T₀ : sProp 𝕄 := iprop(StableHlo.held (c : Thread nD τ) (Pipeline.ucRefs τ sig) (V0 m c) ∗ Ride m c)
abbrev Tₙ : sProp 𝕄 := iprop(StableHlo.held (c : Thread nD τ) (Pipeline.ucRefs τ sig) (V2 m (outs m) c) ∗ semVal (barCell c) 0)

theorem T₀_intro : iprop(records (XX m) κ ∗ (linear c ∗ bundle m c)) ⊢ T₀ m c := by
  unfold bundle T₀ Ride Tk Ow
  iintro ⟨HR, Hl, Hh, ⟨Hc, Hr⟩, HO, Hp⟩
  isplitl [Hh]; · iexact Hh
  isplitl [Hp]; · iexact Hp
  isplitr [HO]
  · isplitl [HR Hl]
    · iexists κ; isplitl [HR]; · iexact HR
      iexact Hl
    isplitl [Hc] <;> iassumption
  · iexists ∅; iexact HO

theorem core_split : iprop(unscopedBufs c (fun b => m ((c : Thread nD τ).loc b)) ∗ unscopedSems0 c
      ∗ owes (c : Thread nD τ) (dues c) ∅ ∗ Pipeline.launchCred dues c ∗ prngReg c (ρ c) ∗ atZero ghost c)
    ⊢ (iprop(bundle m c ∗ (semVal (barCell c) 0 ∗ atZero ghost c)) : sProp 𝕄) := by
  rw [show unscopedBufs c (fun b => m ((c : Thread nD τ).loc b)) = StableHlo.held (c : Thread nD τ) (Pipeline.ucRefs τ sig) (V0 m c) from
      Pipeline.unscopedBufs_held c (V0 m c), sems_eq]
  unfold bundle
  iintro ⟨Hh, Hus, HO, Hcr, Hp, HG⟩
  isplitl [Hh HO Hcr Hp]
  · isplitl [Hh]; · iexact Hh
    isplitl [Hcr]; · iapply (creds (F := F) c) $$ Hcr
    isplitl [HO]; · iexact HO
    iexists (ρ c); iexact Hp
  isplitl [Hus] <;> iassumption

omit [FloatOps F] in
theorem bars_eq (Φ : GSem nD τ sig → sProp 𝕄) : bigSep barCells Φ = bigSep Finset.univ fun d : Dev nD => Φ (barCell d) :=
  bigSep_map (s := Finset.univ) barEmb

theorem opens_eq : bigSep scCells (fun g => (openTok ER g : sProp 𝕄))
    = bigSep Finset.univ fun d : Dev nD => bigSep Finset.univ fun j : Fin 18 => openTok ER (dCell j d) := by
  rw [bigSep_map, bigSep_univ_prod]; rfl

theorem deal :
    iprop((bigSep Finset.univ fun d : Dev nD => iprop(unscopedBufs d (fun b => m ((d : Thread nD τ).loc b)) ∗ unscopedSems0 d
          ∗ owes (d : Thread nD τ) (dues d) ∅ ∗ Pipeline.launchCred dues d ∗ prngReg d (ρ d) ∗ atZero ghost d)) ∗ levAts L lv)
      ⊢ (|={Set.univ}=> bigSep Finset.univ (T₀ m) : sProp 𝕄) := by
  iintro ⟨H, -⟩
  ihave H' := (show (bigSep Finset.univ fun d : Dev nD => iprop(unscopedBufs d (fun b => m ((d : Thread nD τ).loc b)) ∗ unscopedSems0 d
          ∗ owes (d : Thread nD τ) (dues d) ∅ ∗ Pipeline.launchCred dues d ∗ prngReg d (ρ d) ∗ atZero ghost d))
      ⊢ (iprop((bigSep Finset.univ fun d : Dev nD => bundle m d) ∗ (bigSep Finset.univ fun d : Dev nD => semVal (barCell d) 0)
          ∗ bigSep Finset.univ fun d : Dev nD => atZero ghost d) : sProp 𝕄) from by
      rw [← bigSep_sep', ← bigSep_sep']; exact bigSep_mono fun d _ => core_split m ρ d) $$ H
  icases H' with ⟨HB, Hv, HG⟩
  ihave Hu := (show (bigSep Finset.univ fun d : Dev nD => atZero (ghost (F := F)) d) ⊢ BI.own (ER (launchOf barCells scCells allToks)) from
    Entails.of_eq (atZero_all (ghost (F := F)))) $$ HG
  imod (Rounds.fund_launch ER (Rd (XX m)) disjoint_cells (fun g _ h => h) allToks) $$ [Hv Hu] with ⟨%κ, -, #Hinv, #Hr, Hat, Hopen, Htok⟩
  · isplitl [Hv]
    · iapply (Entails.of_eq (bars_eq (fun g => (semVal g 0 : sProp 𝕄))).symm) $$ Hv
    · iexact Hu
  imodintro
  iapply (bigSep_with_persistent (R := records (XX m) κ) (Φ := fun d => iprop(linear d ∗ bundle m d)) fun d _ => T₀_intro m κ d)
  isplitr
  · unfold records
    isplitr; · iexact Hinv
    iexact Hr
  rw [bigSep_sep']
  isplitr [HB]
  · unfold linear
    rw [bigSep_sep', bigSep_sep']
    isplitl [Hat]
    · iapply (Entails.of_eq (bars_eq (fun g => (atPos ER g 0 ∅ 0 : sProp 𝕄)))) $$ Hat
    isplitl [Hopen]; · iapply (Entails.of_eq (opens_eq (F := F))) $$ Hopen
    iapply (toks_deal (F := F)) $$ Htok
  · iexact HB

/-! ## The run -/

/-- What is read at the end on device `c`. -/
def Ends (s : MemSt nD τ sig (Elt F)) : Prop :=
  s.mem ((c : Thread nD τ).loc main_v40) = outC (XX m) c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)

theorem uc_mem (r : Ref sig .tc) (h : r.isScoped = false) : (Proc.devRef .tc r : DevRef τ sig) ∈ Pipeline.ucRefs τ sig :=
  Finset.mem_filter.mpr ⟨StableHlo.devRef_mem_tcRefs r, by simpa using h⟩

theorem ends (s' : Phys nD τ sig (Elt F)) :
    iprop(Tₙ m c ∗ SI s') ⊢ (|={Set.univ}=> iprop(⌜Ends m c s'.mem ∧ s'.mem.sem (barCell c) = 0⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    exact ⟨⟨(h _ (uc_mem main_v40 rfl)).trans ((v40_after m c).trans (outs_v40 m c 2)),
        (h _ (uc_mem main_arg0 rfl)).trans (V2_main_arg0 m (outs m) c),
        (h _ (uc_mem main_arg1 rfl)).trans (V2_main_arg1 m (outs m) c),
        (h _ (uc_mem main_arg2 rfl)).trans (V2_main_arg2 m (outs m) c),
        (h _ (uc_mem main_arg3 rfl)).trans (V2_main_arg3 m (outs m) c),
        (h _ (uc_mem main_arg4 rfl)).trans (V2_main_arg4 m (outs m) c),
        (h _ (uc_mem main_arg5 rfl)).trans (V2_main_arg5 m (outs m) c),
        (h _ (uc_mem main_arg6 rfl)).trans (V2_main_arg6 m (outs m) c),
        (h _ (uc_mem main_arg7 rfl)).trans (V2_main_arg7 m (outs m) c)⟩, by simpa using hb⟩
  · iexact HSI

set_option backward.isDefEq.respectTransparency.types false in
/-- From any memory with zero counters every fair run of the program on the sixteen devices ends; each device's result
    is then the kernel's value of what the host stretches handed all of them, its arguments are as launched, and every
    counter is zero. -/
theorem run_main : θ_run defs (onTc (τ := τ) (main (F := F))) ⟨m, fun _ => 0, ρ⟩
    (fun r => (∀ d : Dev nD, Ends m d r.2) ∧ r.2.sem = fun _ => 0) :=
  Pipeline.θ_run_regions_kit_dev_sems (pcfgs (F := F)) adm (pdats m) () cellOf_inj EP defs₀ 𝒱₀ L lv m ρ main
    (segs m 𝒱₀ L lv (fun _ => Ride m) () (pdats m) (reg0 m))
    (fun d Q => by
      rewrite [main_chain d, Pipeline.Seg.run_eq_chain,
        show (segs m 𝒱₀ L lv (fun _ => Ride m) () (pdats m) (reg0 m) d).map Pipeline.Seg.prog = [
          StableHlo.seq (hostOps0 d),
          Prog.lift (.customCall (Pipeline.entry 0) ()) ] from rfl]
      dsimp (config := { failIfUnchanged := false }) only
      exact .rfl)
    (fun d => by simp only [segs, Pipeline.Seg.pipes_host, Pipeline.Seg.pipes_region, Pipeline.Seg.pipes_nil]; decide)
    dues L_of_ne (atZero ghost) u₀
    (by
      unfold u₀ ghost
      iintro Hu
      ihave H := (ownU_pair _ _) $$ Hu
      icases H with ⟨HP, HX⟩
      imodintro
      isplitl [HP]; · iexact HP
      rw [atZero_all]; iexact HX)
    (T₀ m) (Tₙ m)
    (fun d => ⟨.rfl, reg_pre m d, (reg_post m d).trans (by
      unfold Left Tₙ Ow
      iintro ⟨Hh, Hb, HO⟩
      isplitr [HO]
      · isplitl [Hh] <;> iassumption
      · iexact HO)⟩)
    (deal m ρ)
    (fun d s => Ends m d s ∧ s.sem (barCell d) = 0)
    (ends m)
    (fun s h hs => ⟨fun d => (h d).1, sem_eq_zero hs fun d sm hsm => by
      obtain rfl := unscoped_eq sm hsm
      exact (h d).2⟩)

/-- The frame, for any float values: the arguments and the counters of that run. -/
theorem run_frame : θ_run defs (onTc (τ := τ) (main (F := F))) ⟨m, fun _ => 0, ρ⟩ (fun r => (∀ d : Dev nD,
      r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4)
      ∧ r.2.mem ((d : Thread nD τ).loc main_arg5) = m ((d : Thread nD τ).loc main_arg5)
      ∧ r.2.mem ((d : Thread nD τ).loc main_arg6) = m ((d : Thread nD τ).loc main_arg6)
      ∧ r.2.mem ((d : Thread nD τ).loc main_arg7) = m ((d : Thread nD τ).loc main_arg7))
      ∧ r.2.sem = fun _ => 0) :=
  (θ_run defs _ _).mono (fun _ h => ⟨fun d => (h.1 d).2, h.2⟩) (run_main m ρ)

end Cert.KernelIdeal.P

end
-- ==== Proof.Frames.lean ====
/- The frames of the kernel's two readings, bit patterns and extended reals, and of the reference. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_ideal : Cert.quiescent_KernelIdeal (hKernelIdeal := Cert.KernelIdeal.Gen.facts) :=
  fun m ρ _ => Cert.KernelIdeal.P.run_frame (F := Ideal) m ρ

set_option maxRecDepth 100000 in
set_option maxHeartbeats 8000000 in
set_option smartUnfolding false in
/-- The kernel at bit patterns is the same program text, read over the other carrier. -/
theorem frame_bits : Cert.quiescent_Kernel (hKernel := Cert.Kernel.Gen.facts) :=
  fun m ρ _ => Cert.KernelIdeal.P.run_frame (F := Bits) m ρ

/-- The reference declares no semaphore. -/
theorem frame_ref : Cert.quiescent_ReferenceIdeal (hReferenceIdeal := Cert.ReferenceIdeal.Gen.facts) := fun m ρ _ =>
  (θ_run Cert.ReferenceIdeal.defs _ _).mono
    (fun r h => ⟨fun d => (h d).2, Idealize.ShloMosaic.sem_eq_zero_of_no_sems (by decide) r.2⟩)
    (Cert.ReferenceIdeal.Value.run (F := Ideal) m ρ)

end Cert.Proof

end
-- ==== Proof.Mla.lean ====
/- The attention layer as plain sums over coordinates: what the reference computes from whole arrays, and what
   the sixteen devices must come to together. Nothing here is about either program. -/
module

public import Idealize.ShloMosaic.Lib.Pointwise

@[expose] public section

noncomputable section

namespace Cert.Mla

open Idealize.ShloMosaic

/-- The eight whole arrays, read by coordinates. -/
structure Full where
  x : Fin 2 → Fin 256 → Fin 1024 → EReal
  wdkv : Fin 1024 → Fin 256 → EReal
  wuk : Fin 256 → Fin 1024 → EReal
  wuv : Fin 256 → Fin 1024 → EReal
  wq : Fin 1024 → Fin 1024 → EReal
  wqr : Fin 1024 → Fin 512 → EReal
  wkr : Fin 1024 → Fin 32 → EReal
  wo : Fin 1024 → Fin 1024 → EReal

/-- Column `e` of head `h`, in heads of 64 columns. -/
def col (h : Fin 16) (e : Fin 64) : Fin 1024 := ⟨h.val * 64 + e.val, by omega⟩
/-- Column `e` of head `h`, in heads of 32 columns. -/
def rcol (h : Fin 16) (e : Fin 32) : Fin 512 := ⟨h.val * 32 + e.val, by omega⟩

/-- The scale of the scores, as printed by both programs. -/
def scale : EReal := Ideal.ofBits .f32 0x3DD105EC#32
/-- Where a row's maximum starts. -/
def bot : EReal := Ideal.ofBits .f32 0xFF800000#32

/-- A row's largest score. -/
def top (sc : Fin 256 → EReal) : EReal := Finset.univ.fold max bot sc
/-- A row's weights. -/
def soft (sc : Fin 256 → EReal) (t : Fin 256) : EReal :=
  Ideal.div (Ideal.exp (sc t - top sc)) (∑ k : Fin 256, Ideal.exp (sc k - top sc))

/-- One head's output from its queries, keys and values and the positional part of its scores. -/
def head (q k v : Fin 256 → Fin 64 → EReal) (rope : Fin 256 → Fin 256 → EReal) (s : Fin 256) (d : Fin 64) : EReal :=
  ∑ t : Fin 256, soft (fun t' => ((∑ e : Fin 64, q s e * k t' e) + rope s t') * scale) t * v t d

variable (A : Full)

def lat (b : Fin 2) (t k : Fin 256) : EReal := ∑ l : Fin 1024, A.x b t l * A.wdkv l k
/-- Keys or values: the latent projected up by `W`. -/
def up (W : Fin 256 → Fin 1024 → EReal) (b : Fin 2) (t : Fin 256) (j : Fin 1024) : EReal := ∑ k : Fin 256, lat A b t k * W k j
def qry (b : Fin 2) (s : Fin 256) (j : Fin 1024) : EReal := ∑ l : Fin 1024, A.x b s l * A.wq l j
def qrope (b : Fin 2) (s : Fin 256) (j : Fin 512) : EReal := ∑ l : Fin 1024, A.x b s l * A.wqr l j
def krope (b : Fin 2) (s : Fin 256) (e : Fin 32) : EReal := ∑ l : Fin 1024, A.x b s l * A.wkr l e
def rope (b : Fin 2) (h : Fin 16) (s t : Fin 256) : EReal := ∑ e : Fin 32, qrope A b s (rcol h e) * krope A b t e

/-- Head `h` on batch row `b`. -/
def att (b : Fin 2) (h : Fin 16) (s : Fin 256) (d : Fin 64) : EReal :=
  head (fun s e => qry A b s (col h e)) (fun t e => up A A.wuk b t (col h e)) (fun t e => up A A.wuv b t (col h e)) (rope A b h) s d

/-- The attention outputs side by side. -/
def cat (b : Fin 2) (s : Fin 256) (j : Fin 1024) : EReal :=
  att A b ⟨j.val / 64, by omega⟩ s ⟨j.val % 64, Nat.mod_lt _ (by decide)⟩

/-- The layer's result. -/
def out (b : Fin 2) (s : Fin 256) (n : Fin 1024) : EReal := ∑ j : Fin 1024, cat A b s j * A.wo j n

end Cert.Mla

end
-- ==== Proof.HeadValue.lean ====
/- One device's values read at an index: its projections, the blocks it gathers, and its heads' attention
   outputs, as the plain sums of the attention layer over what the device was handed. -/
module

public import proofs.«01_k».proof.Proof.Vals
public import proofs.«01_k».proof.Proof.Mla
public import Idealize.ShloMosaic.Lib.Pipeline.ValueKit.Geometry

@[expose] public section

set_option maxRecDepth 16384

noncomputable section

namespace Cert.KernelIdeal.P

open Idealize.ShloMosaic Idealize.ShloMosaic.TcCoe
open Cert.KernelIdeal Cert.KernelIdeal.Gen
open Cert

/-- The row of batch row `b`'s position `s`, the two batch rows one under the other. -/
def row (b : Fin 2) (s : Fin 256) : Fin 512 := ⟨256 * b.val + s.val, by omega⟩
/-- Column `e` of one of a device's four heads. -/
def lcol (h : Fin 4) (e : Fin 64) : Fin 256 := ⟨64 * h.val + e.val, by omega⟩
def lrcol (h : Fin 4) (e : Fin 32) : Fin 128 := ⟨32 * h.val + e.val, by omega⟩

/-- Where a unit-stride rectangle's place `j` lies in the array. -/
theorem emb_eq {s : Shape} (off size : Fin s.rank → ℕ) (inb) (j : (Rect.unit off size inb).shape.Idx) (k : s.Idx)
    (h : ∀ a, (k a).val = off a + (j a).val) : (Rect.unit off size inb).emb j = k :=
  funext fun a => Fin.ext ((ValueKit.rect_emb_unit_val off size inb j a).trans (h a).symm)

section Own

variable (I : Inp Ideal)

theorem V102_apply (s : Fin 256) (l : Fin 1024) : V102 I (ix3 0 s l) = I.x (ix3 0 s l) :=
  congrArg I.x (emb_eq _ _ _ _ _ fun a => by fin_cases a <;> exact (Nat.zero_add _).symm)
theorem V104_apply (s : Fin 256) (l : Fin 1024) : V104 I (ix3 0 s l) = I.x (ix3 1 s l) :=
  congrArg I.x (emb_eq _ _ _ _ _ fun a => by fin_cases a <;> first | rfl | exact (Nat.zero_add _).symm)

theorem V107_eq : V107 I = I.wdkv := funext fun _ => congrArg I.wdkv (emb_eq _ _ _ _ _ fun a => by fin_cases a <;> exact (Nat.zero_add _).symm)
theorem V111_eq : V111 I = I.wuk := funext fun _ => congrArg I.wuk (emb_eq _ _ _ _ _ fun a => by fin_cases a <;> exact (Nat.zero_add _).symm)
theorem V113_eq : V113 I = I.wuv := funext fun _ => congrArg I.wuv (emb_eq _ _ _ _ _ fun a => by fin_cases a <;> exact (Nat.zero_add _).symm)
theorem V174_eq : V174 I = I.wq := funext fun _ => congrArg I.wq (emb_eq _ _ _ _ _ fun a => by fin_cases a <;> exact (Nat.zero_add _).symm)
theorem V178_eq : V178 I = I.wqr := funext fun _ => congrArg I.wqr (emb_eq _ _ _ _ _ fun a => by fin_cases a <;> exact (Nat.zero_add _).symm)
theorem V182_eq : V182 I = I.wkr := funext fun _ => congrArg I.wkr (emb_eq _ _ _ _ _ fun a => by fin_cases a <;> exact (Nat.zero_add _).symm)

/-- The two batch rows, one under the other. -/
theorem V106_apply (b : Fin 2) (s : Fin 256) (l : Fin 1024) : V106 I (ix2 (row b s) l) = I.x (ix3 b s l) := by
  have h : V106 I (ix2 (row b s) l) = if h : (row b s).val < 256 then V102 I (ix3 0 ⟨(row b s).val, h⟩ l)
      else V104 I (ix3 0 ⟨(row b s).val - 256, by have := (row b s).isLt; omega⟩ l) := by
    pointwise [V106, k0_pay1]
  rw [h]
  match b with
  | 0 => rw [dif_pos (by simp [row]), V102_apply]; congr 2; exact Fin.ext (by simp [row])
  | 1 => rw [dif_neg (by simp [row]), V104_apply]; congr 2; exact Fin.ext (by simp [row])

theorem V110_apply (k : Fin 64) (r : Fin 512) : V110 I (ix2 k r) = ∑ l : Fin 1024, I.wdkv (ix2 l k) * V106 I (ix2 r l) := by
  pointwise [V110, k0_pay2, V106, V107_eq]
theorem V177_apply (r : Fin 512) (j : Fin 256) : V177 I (ix2 r j) = ∑ l : Fin 1024, V106 I (ix2 r l) * I.wq (ix2 l j) := by
  pointwise [V177, k0_pay10, V174_eq]
theorem V181_apply (r : Fin 512) (j : Fin 128) : V181 I (ix2 r j) = ∑ l : Fin 1024, V106 I (ix2 r l) * I.wqr (ix2 l j) := by
  pointwise [V181, k0_pay11, V178_eq]
/-- The positional keys of both batch rows. -/
def V185 : FVec Ideal S512x32 .bf16 := k0_pay12 (V106 I) (V182 I)
theorem V185_apply (r : Fin 512) (j : Fin 32) : V185 I (ix2 r j) = ∑ l : Fin 1024, V106 I (ix2 r l) * I.wkr (ix2 l j) := by
  pointwise [V185, k0_pay12, V182_eq]

/-- The positional part of the scores at batch row `b` and head `h`. -/
def ropeOf (b : Fin 2) (h : Fin 4) : FVec Ideal S256x256 .f32 :=
  match b, h with
  | 0, 0 => V188 I | 0, 1 => V190 I | 0, 2 => V192 I | 0, 3 => V194 I
  | 1, 0 => V197 I | 1, 1 => V199 I | 1, 2 => V201 I | 1, 3 => V203 I

theorem ropeOf_apply (b : Fin 2) (h : Fin 4) (s t : Fin 256) :
    ropeOf I b h (ix2 s t) = ∑ e : Fin 32, V181 I (ix2 (row b s) (lrcol h e)) * V185 I (ix2 (row b t) e) := by
  fin_cases b <;> fin_cases h <;>
    · simp only [ropeOf]
      pointwise [V188, V190, V192, V194, V197, V199, V201, V203, V195, V196, k0_pay13, k0_pay14, k0_pay15, k0_pay16, k0_pay17, k0_pay18,
        k0_pay19, k0_pay20, k0_pay21, k0_pay22, k0_pay23, V181, V185, row, lrcol]

end Own

/-! ## The heads -/

/-- One head on one batch row, from its blocks of queries, keys and values and the positional part of its scores. -/
def attV (q k v : FVec Ideal S256x64 .bf16) (rp : FVec Ideal S256x256 .f32) : FVec Ideal S256x64 .bf16 :=
  have p : FVec Ideal S256x256 .f32 := matmul dot_S256x64_S256x64_S256x256_1_1_0_0_n_n none q k (constant S256x256 .f32 0x00000000#32)
  have sc : FVec Ideal S256x256 .f32 := mulf (addf p rp) (broadcast S256x256 (Scalar.ofBits .f32 0x3DD105EC#32))
  have mx : FVec Ideal S256 .f32 := multiReduction .maximumf [1] S256 sc 0xFF800000#32 reduces_S256x256_S256 (.inl rfl) rfl
  have ex : FVec Ideal S256x256 .f32 := exp (subf sc (broadcastTo S256x256 (shapeCast S256x1 mx shapeCasts_S256_S256x1) broadcasts_S256x1_S256x256))
  have sm : FVec Ideal S256 .f32 := multiReduction .add [1] S256 ex 0x00000000#32 reduces_S256x256_S256 (.inl rfl) rfl
  have w : FVec Ideal S256x256 .bf16 :=
    truncf .bf16 (divf ex (broadcastTo S256x256 (shapeCast S256x1 sm shapeCasts_S256_S256x1) broadcasts_S256x1_S256x256)) bitsLt_bf16_f32
  shapeCast S256x64 (truncf .bf16 (matmul dot_S256x256_S256x64_S256x64_1_0_0_1_n_n none w v (constant S256x64 .f32 0x00000000#32)) bitsLt_bf16_f32)
    shapeCasts_S256x64_S256x64

theorem attV_apply (q k v : FVec Ideal S256x64 .bf16) (rp : FVec Ideal S256x256 .f32) (s : Fin 256) (d : Fin 64) :
    attV q k v rp (ix2 s d)
      = Mla.head (fun s e => q (ix2 s e)) (fun t e => k (ix2 t e)) (fun t e => v (ix2 t e)) (fun s t => rp (ix2 s t)) s d := by
  pointwise [attV, Mla.head, Mla.soft, Mla.top, Mla.bot, Mla.scale]

section All

variable (X : Dev nD → Inp Ideal) (c : Dev nD)

theorem slices (b : Fin 2) (h : Fin 4) : S512x256.Slices ![256 * b.val, 64 * h.val] S256x64 := by
  revert b h; decide
/-- The rows of batch row `b` and columns of head `h`. -/
def patch (b : Fin 2) (h : Fin 4) (v : FVec Ideal S512x256 .bf16) : FVec Ideal S256x64 .bf16 :=
  extractStridedSlice S256x64 ![256 * b.val, 64 * h.val] v (slices b h)
theorem patch_apply (b : Fin 2) (h : Fin 4) (v : FVec Ideal S512x256 .bf16) (s : Fin 256) (e : Fin 64) :
    patch b h v (ix2 s e) = v (ix2 (row b s) (lcol h e)) := by
  pointwise [patch, row, lcol]

/-- The block at batch row `b` and head `h` is the attention of the matching blocks of queries, keys and values. -/
theorem oBlk_eq (b : Fin 2) (h : Fin 4) :
    oBlk X c b.val h.val = attV (patch b h (V177 (X c))) (patch b h (V267 X c)) (patch b h (V268 X c)) (ropeOf (X c) b h) := by
  fin_cases b <;> fin_cases h <;> rfl

theorem oBlk_apply (b : Fin 2) (h : Fin 4) (s : Fin 256) (d : Fin 64) :
    oBlk X c b.val h.val (ix2 s d)
      = Mla.head (fun s e => V177 (X c) (ix2 (row b s) (lcol h e))) (fun t e => V267 X c (ix2 (row b t) (lcol h e)))
          (fun t e => V268 X c (ix2 (row b t) (lcol h e))) (fun s t => ropeOf (X c) b h (ix2 s t)) s d := by
  rw [oBlk_eq, attV_apply]; simp only [patch_apply]

/-- An output buffer's entry is its block's. -/
theorem own_apply (b : Fin 2) (h : Fin 4) (s : Fin 256) (d : Fin 64) :
    own X c (ix2 (row b s) (lcol h d)) = oBlk X c b.val h.val (ix2 s d) := by
  have h1 : (row b s).val / 256 = b.val := by show (256 * b.val + s.val) / 256 = _; omega
  have h2 : (lcol h d).val / 64 = h.val := by show (64 * h.val + d.val) / 64 = _; omega
  have h3 : blkIdx (ix2 (row b s) (lcol h d)) = ix2 s d := funext fun a => Fin.ext (by
    fin_cases a
    · show (256 * b.val + s.val) % 256 = s.val; omega
    · show (64 * h.val + d.val) % 64 = d.val; omega)
  show oBlk X c ((row b s).val / 256) ((lcol h d).val / 64) (blkIdx (ix2 (row b s) (lcol h d))) = _
  rw [h1, h2, h3]

/-! ## The gathered keys and values -/

theorem V216_apply (k : Fin 64) (b : Fin 1024) : V216 X c (ix3 0 k b) = packAt (X (zsh 1 c)) k b :=
  congrArg (comm X c) (emb_eq _ _ _ _ (ix3 1 k b) fun a => by fin_cases a <;> first | rfl | exact (Nat.zero_add _).symm)
theorem V237_apply (k : Fin 64) (b : Fin 1024) : V237 X c (ix3 0 k b) = packAt (X (zsh 2 c)) k b :=
  congrArg (comm X c) (emb_eq _ _ _ _ (ix3 2 k b) fun a => by fin_cases a <;> first | rfl | exact (Nat.zero_add _).symm)
theorem V258_apply (k : Fin 64) (b : Fin 1024) : V258 X c (ix3 0 k b) = packAt (X (zsh 3 c)) k b :=
  congrArg (comm X c) (emb_eq _ _ _ _ (ix3 3 k b) fun a => by fin_cases a <;> first | rfl | exact (Nat.zero_add _).symm)

variable (I : Inp Ideal)

theorem pack_lat (k : Fin 64) (r : Fin 512) : packAt I k ⟨r.val, by omega⟩ = V110 I (ix2 k r) := by
  unfold packAt
  rw [dif_pos r.isLt]
  show pk5 I (ix3 0 k r) = _
  pointwise [pk5, k0_pay5, V110]
theorem pack_uk (k : Fin 64) (j : Fin 256) : packAt I k ⟨512 + j.val, by omega⟩ = I.wuk (ix2 k j) := by
  unfold packAt
  rw [dif_neg (by simp), dif_pos (by simp; omega)]
  have : (⟨512 + j.val - 512, by omega⟩ : Fin 256) = j := Fin.ext (by simp)
  simp only [this]
  show pk6 I (ix3 0 k j) = _
  pointwise [pk6, k0_pay6, k0_pay3, V111_eq]
theorem pack_uv (k : Fin 64) (j : Fin 256) : packAt I k ⟨768 + j.val, by omega⟩ = I.wuv (ix2 k j) := by
  unfold packAt
  rw [dif_neg (by simp; omega), dif_neg (by simp)]
  have : (⟨768 + j.val - 768, by omega⟩ : Fin 256) = j := Fin.ext (by simp)
  simp only [this]
  show pk7 I (ix3 0 k j) = _
  pointwise [pk7, k0_pay7, k0_pay4, V113_eq]

/-- One depth's share of the keys or values: its latent block times its up-projection block `W`. -/
def share (W : FVec Ideal S64x256 .bf16) (r : Fin 512) (j : Fin 256) : EReal := ∑ k : Fin 64, V110 I (ix2 k r) * W (ix2 k j)

theorem V172_apply (r : Fin 512) (j : Fin 256) : V172 I (ix2 r j) = share I I.wuk r j := by
  pointwise [V172, k0_pay8, V112, k0_pay3, V111_eq, share]
theorem V173_apply (r : Fin 512) (j : Fin 256) : V173 I (ix2 r j) = share I I.wuv r j := by
  pointwise [V173, k0_pay9, V114, k0_pay4, V113_eq, share]

theorem V267_apply (r : Fin 512) (j : Fin 256) : V267 X c (ix2 r j)
    = share (X c) (X c).wuk r j + share (X (zsh 1 c)) (X (zsh 1 c)).wuk r j + share (X (zsh 2 c)) (X (zsh 2 c)).wuk r j
      + share (X (zsh 3 c)) (X (zsh 3 c)).wuk r j := by
  pointwise [V267, k0_pay34, V244, k0_pay30, V223, k0_pay26, V259, k0_pay32, V260, k0_pay33, k0_pay24, k0_pay25, k0_pay28, k0_pay29, V172_apply,
    V216_apply, V237_apply, V258_apply, pack_lat, pack_uk, share]
theorem V268_apply (r : Fin 512) (j : Fin 256) : V268 X c (ix2 r j)
    = share (X c) (X c).wuv r j + share (X (zsh 1 c)) (X (zsh 1 c)).wuv r j + share (X (zsh 2 c)) (X (zsh 2 c)).wuv r j
      + share (X (zsh 3 c)) (X (zsh 3 c)).wuv r j := by
  pointwise [V268, k0_pay35, V245, k0_pay31, V224, k0_pay27, V259, k0_pay32, V260, k0_pay33, k0_pay24, k0_pay25, k0_pay28, k0_pay29, V173_apply,
    V216_apply, V237_apply, V258_apply, pack_lat, pack_uv, share]

end All

end Cert.KernelIdeal.P

end
-- ==== Proof.LayerValue.lean ====
/- The sixteen devices' values together: when each is handed its blocks of the whole arrays, every device's
   result is the attention layer of the whole arrays. -/
module

public import proofs.«01_k».proof.Proof.HeadValue

@[expose] public section

set_option maxRecDepth 16384

noncomputable section

namespace Cert.KernelIdeal.P

open Idealize.ShloMosaic Idealize.ShloMosaic.TcCoe
open Cert.KernelIdeal Cert.KernelIdeal.Gen
open Cert

/-- The group of four heads a device computes. -/
def grp (c : Dev nD) : Fin 4 := ⟨match c.val / 4 with | 0 => 0 | 1 => 1 | 2 => 3 | _ => 2, by split <;> decide⟩
/-- A device's place on the depth axis. -/
def dep (c : Dev nD) : Fin 4 := ⟨c.val % 4, Nat.mod_lt _ (by decide)⟩

/-- Latent column `k` of depth `z`'s 64. -/
def chunk (z : Fin 4) (k : Fin 64) : Fin 256 := ⟨z.val * 64 + k.val, by omega⟩
/-- Column `j` of group `g`'s 256, and of its 128 positional ones. -/
def gcol (g : Fin 4) (j : Fin 256) : Fin 1024 := ⟨g.val * 256 + j.val, by omega⟩
def grcol (g : Fin 4) (j : Fin 128) : Fin 512 := ⟨g.val * 128 + j.val, by omega⟩
/-- Head `h` of group `g`. -/
def ghead (g h : Fin 4) : Fin 16 := ⟨g.val * 4 + h.val, by omega⟩

/-- Every device is handed its blocks of the whole arrays. -/
structure Fits (A : Mla.Full) (X : Dev nD → Inp Ideal) : Prop where
  x : ∀ c b s l, (X c).x (ix3 b s l) = A.x b s l
  wdkv : ∀ c l k, (X c).wdkv (ix2 l k) = A.wdkv l (chunk (dep c) k)
  wuk : ∀ c k j, (X c).wuk (ix2 k j) = A.wuk (chunk (dep c) k) (gcol (grp c) j)
  wuv : ∀ c k j, (X c).wuv (ix2 k j) = A.wuv (chunk (dep c) k) (gcol (grp c) j)
  wq : ∀ c l j, (X c).wq (ix2 l j) = A.wq l (gcol (grp c) j)
  wqr : ∀ c l j, (X c).wqr (ix2 l j) = A.wqr l (grcol (grp c) j)
  wkr : ∀ c l e, (X c).wkr (ix2 l e) = A.wkr l e
  wo : ∀ c j n, (X c).wo (ix2 j n) = A.wo j n

/-! ## Sums in four parts -/

theorem sum_chunk (f : Fin 256 → EReal) : ∑ k, f k = ∑ z : Fin 4, ∑ k : Fin 64, f (chunk z k) := by
  rw [← Fintype.sum_prod_type' fun z k => f (chunk z k)]
  exact (Fintype.sum_equiv (finProdFinEquiv (m := 4) (n := 64)) _ _ fun p => congrArg f (Fin.ext (by
    simp only [chunk, finProdFinEquiv_apply_val]; omega))).symm
theorem sum_gcol (f : Fin 1024 → EReal) : ∑ k, f k = ∑ g : Fin 4, ∑ j : Fin 256, f (gcol g j) := by
  rw [← Fintype.sum_prod_type' fun g j => f (gcol g j)]
  exact (Fintype.sum_equiv (finProdFinEquiv (m := 4) (n := 256)) _ _ fun p => congrArg f (Fin.ext (by
    simp only [gcol, finProdFinEquiv_apply_val]; omega))).symm

/-- Four parts in any order are the sum. -/
theorem sum_order (p : Fin 4 → Fin 4) (hp : Function.Bijective p) (f : Fin 4 → EReal) :
    f (p 0) + f (p 1) + f (p 2) + f (p 3) = ∑ z, f z := by
  rw [← Function.Bijective.sum_comp hp f, Fin.sum_univ_four]

/-- The depths of the device and the three whose blocks it gathers. -/
theorem deps (c : Dev nD) : Function.Bijective ![dep c, dep (zsh 1 c), dep (zsh 2 c), dep (zsh 3 c)] := by revert c; decide +kernel
/-- The groups of the device, its two neighbours and the opposite one. -/
theorem grps (c : Dev nD) : Function.Bijective ![grp c, grp (lf c), grp (rt c), grp (op c)] := by revert c; decide +kernel
theorem grp_zsh (c : Dev nD) : grp (zsh 1 c) = grp c ∧ grp (zsh 2 c) = grp c ∧ grp (zsh 3 c) = grp c := by revert c; decide +kernel

section Fit

variable {A : Mla.Full} {X : Dev nD → Inp Ideal} (H : Fits A X) (c : Dev nD)
include H

theorem share_uk (b : Fin 2) (t : Fin 256) (j : Fin 256) : share (X c) (X c).wuk (row b t) j
    = ∑ k : Fin 64, Mla.lat A b t (chunk (dep c) k) * A.wuk (chunk (dep c) k) (gcol (grp c) j) := by
  simp only [share, Mla.lat, V110_apply, V106_apply, H.x, H.wdkv, H.wuk]
  exact Finset.sum_congr rfl fun k _ => congrArg (· * _) (Finset.sum_congr rfl fun l _ => mul_comm _ _)
theorem share_uv (b : Fin 2) (t : Fin 256) (j : Fin 256) : share (X c) (X c).wuv (row b t) j
    = ∑ k : Fin 64, Mla.lat A b t (chunk (dep c) k) * A.wuv (chunk (dep c) k) (gcol (grp c) j) := by
  simp only [share, Mla.lat, V110_apply, V106_apply, H.x, H.wdkv, H.wuv]
  exact Finset.sum_congr rfl fun k _ => congrArg (· * _) (Finset.sum_congr rfl fun l _ => mul_comm _ _)

/-- The four depths' shares are the whole contraction. -/
theorem keys (b : Fin 2) (t : Fin 256) (j : Fin 256) : V267 X c (ix2 (row b t) j) = Mla.up A A.wuk b t (gcol (grp c) j) := by
  obtain ⟨h1, h2, h3⟩ := grp_zsh c
  rw [V267_apply, share_uk H, share_uk H, share_uk H, share_uk H, h1, h2, h3, Mla.up, sum_chunk]
  exact sum_order _ (deps c) fun z => ∑ k : Fin 64, Mla.lat A b t (chunk z k) * A.wuk (chunk z k) (gcol (grp c) j)
theorem values (b : Fin 2) (t : Fin 256) (j : Fin 256) : V268 X c (ix2 (row b t) j) = Mla.up A A.wuv b t (gcol (grp c) j) := by
  obtain ⟨h1, h2, h3⟩ := grp_zsh c
  rw [V268_apply, share_uv H, share_uv H, share_uv H, share_uv H, h1, h2, h3, Mla.up, sum_chunk]
  exact sum_order _ (deps c) fun z => ∑ k : Fin 64, Mla.lat A b t (chunk z k) * A.wuv (chunk z k) (gcol (grp c) j)

theorem queries (b : Fin 2) (s : Fin 256) (j : Fin 256) : V177 (X c) (ix2 (row b s) j) = Mla.qry A b s (gcol (grp c) j) := by
  simp only [V177_apply, V106_apply, H.x, H.wq, Mla.qry]
theorem ropes (b : Fin 2) (h : Fin 4) (s t : Fin 256) : ropeOf (X c) b h (ix2 s t) = Mla.rope A b (ghead (grp c) h) s t := by
  have hc : ∀ e, grcol (grp c) (lrcol h e) = Mla.rcol (ghead (grp c) h) e := fun e => Fin.ext (by
    simp only [grcol, lrcol, Mla.rcol, ghead]; omega)
  simp only [ropeOf_apply, V181_apply, V185_apply, V106_apply, H.x, H.wqr, H.wkr, hc, Mla.rope, Mla.qrope, Mla.krope]

/-- A device's output buffer holds its group's columns of the attention outputs. -/
theorem owns_cat (b : Fin 2) (s : Fin 256) (j : Fin 256) : own X c (ix2 (row b s) j) = Mla.cat A b s (gcol (grp c) j) := by
  obtain ⟨h, d, rfl⟩ : ∃ h d, j = lcol h d :=
    ⟨⟨j.val / 64, by omega⟩, ⟨j.val % 64, Nat.mod_lt _ (by decide)⟩, Fin.ext (by simp only [lcol]; omega)⟩
  have hc : ∀ e, gcol (grp c) (lcol h e) = Mla.col (ghead (grp c) h) e := fun e => Fin.ext (by
    simp only [gcol, lcol, Mla.col, ghead]; omega)
  have hh : (⟨(Mla.col (ghead (grp c) h) d).val / 64, by omega⟩ : Fin 16) = ghead (grp c) h := Fin.ext (by simp only [Mla.col]; omega)
  have hd : (⟨(Mla.col (ghead (grp c) h) d).val % 64, Nat.mod_lt _ (by decide)⟩ : Fin 64) = d := Fin.ext (by simp only [Mla.col]; omega)
  rw [own_apply, oBlk_apply, hc, Mla.cat, hh, hd, Mla.att]
  simp only [queries H, keys H, values H, ropes H, hc]

omit H in
theorem V519_apply (r : Fin 512) (j : Fin 256) : V519 X c (ix2 r j) = own X c (ix2 r j) :=
  congrArg (own X c) (emb_eq _ _ _ _ _ fun a => by fin_cases a <;> exact (Nat.zero_add _).symm)
omit H in
theorem V545_apply (r : Fin 512) (j : Fin 256) : V545 X c (ix2 r j) = own X (lf c) (ix2 r j) :=
  congrArg (own X (lf c)) (emb_eq _ _ _ _ _ fun a => by fin_cases a <;> exact (Nat.zero_add _).symm)
omit H in
theorem V572_apply (r : Fin 512) (j : Fin 256) : V572 X c (ix2 r j) = own X (rt c) (ix2 r j) :=
  congrArg (own X (rt c)) (emb_eq _ _ _ _ _ fun a => by fin_cases a <;> exact (Nat.zero_add _).symm)
omit H in
theorem V599_apply (r : Fin 512) (j : Fin 256) : V599 X c (ix2 r j) = own X (op c) (ix2 r j) :=
  congrArg (own X (op c)) (emb_eq _ _ _ _ _ fun a => by fin_cases a <;> exact (Nat.zero_add _).symm)

omit H in
/-- The rows of the output projection a device loads begin at its own group's, then at its peers'. -/
theorem offs (c : Dev nD) : k0_off1 c = ![(grp c).val * 256, 0] ∧ k0_off2 c = ![(grp (lf c)).val * 256, 0]
    ∧ k0_off3 c 1#32 = ![(grp (rt c)).val * 256, 0] ∧ k0_off3 c 2#32 = ![(grp (op c)).val * 256, 0] := by revert c; decide +kernel

omit H in
theorem at_off {off : Fin 2 → ℕ} {g : Fin 4} (h : off = ![g.val * 256, 0]) (inb) (j : Fin 256) (n : Fin 1024) :
    (Rect.unit (s := S1024x1024) off S256x1024.size inb).emb (ix2 j n) = ix2 (gcol g j) n :=
  emb_eq _ _ _ _ _ fun a => by subst h; fin_cases a <;> first | rfl | exact (Nat.zero_add _).symm

theorem V522_apply (j : Fin 256) (n : Fin 1024) : V522 X c (ix2 j n) = A.wo (gcol (grp c) j) n :=
  (congrArg (X c).wo (at_off (offs c).1 _ j n)).trans (H.wo c _ n)
theorem V548_apply (j : Fin 256) (n : Fin 1024) : V548 X c (ix2 j n) = A.wo (gcol (grp (lf c)) j) n :=
  (congrArg (X c).wo (at_off (offs c).2.1 _ j n)).trans (H.wo c _ n)
theorem V575_apply (j : Fin 256) (n : Fin 1024) : V575 X c (ix2 j n) = A.wo (gcol (grp (rt c)) j) n :=
  (congrArg (X c).wo (at_off (offs c).2.2.1 _ j n)).trans (H.wo c _ n)
theorem V602_apply (j : Fin 256) (n : Fin 1024) : V602 X c (ix2 j n) = A.wo (gcol (grp (op c)) j) n :=
  (congrArg (X c).wo (at_off (offs c).2.2.2 _ j n)).trans (H.wo c _ n)

omit H in
/-- The result's two halves are the two batch rows of one accumulated product. -/
theorem outC_rows (b : Fin 2) (s : Fin 256) (n : Fin 1024) :
    outC X c (ix3 b s n) = k0_pay55 (V578 X c) (V599 X c) (V602 X c) (ix2 (row b s) n) := by
  match b with
  | 0 => show out0 X c (ix3 0 s n) = _; pointwise [out0, k0_pay56, row]
  | 1 => show out1 X c (ix3 0 s n) = _; pointwise [out1, k0_pay57, row]

/-- Every device's result is the attention layer of the whole arrays. -/
theorem outC_apply (b : Fin 2) (s : Fin 256) (n : Fin 1024) : outC X c (ix3 b s n) = Mla.out A b s n := by
  rw [outC_rows, Mla.out, sum_gcol, ← sum_order _ (grps c) fun g => ∑ j : Fin 256, Mla.cat A b s (gcol g j) * A.wo (gcol g j) n]
  pointwise [k0_pay55, V578, k0_pay54, V551, k0_pay53, V524, k0_pay52, V519_apply, V545_apply, V572_apply, V599_apply, V522_apply H, V548_apply H,
    V575_apply H, V602_apply H, owns_cat H]

end Fit

end Cert.KernelIdeal.P

end
-- ==== Proof.HostValue.lean ====
/- What @main hands the kernel on each device, as blocks of the whole arrays. -/
module

public import proofs.«01_k».proof.Proof.Region
public import proofs.«01_k».proof.Proof.LayerValue
public import Idealize.ShloMosaic.Lib.StableHlo.RunRead
public import Idealize.ShloMosaic.Lib.Layout

@[expose] public section

set_option maxRecDepth 16384

noncomputable section

namespace Cert.KernelIdeal.P

open Idealize.ShloMosaic Idealize.ShloMosaic.TcCoe
open Cert.KernelIdeal Cert.KernelIdeal.Gen
open Cert

variable (m : (ℓ : Loc nD τ sig) → Buf (Elt Ideal) ℓ) (c : Dev nD)

/-- A slice of a quarter of the columns, begun at quarter `g`. -/
theorem slice_apply {R B W : ℕ} (hW : W = 4 * B) (x : FVec Ideal ⟨2, ![R, W]⟩ .f32) (o : Fin 2 → ℤ) (h) (g : Fin 4) (h0 : o 0 = 0)
    (h1 : o 1 = ((g.val * B : ℕ) : ℤ)) (k : Fin R) (j : Fin B) (hj : g.val * B + j.val < W) :
    Host.dynamicSlice ⟨2, ![R, B]⟩ x o h (ix2 k j) = x (ix2 k ⟨g.val * B + j.val, hj⟩) := by
  refine congrArg x (funext fun a => Fin.ext ?_)
  match a with
  | 0 => simp [Host.clampedStart, h0]
  | 1 =>
    simp only [Host.clampedStart, h1]
    have hg : g.val * B ≤ 3 * B := Nat.mul_le_mul_right _ (by omega)
    show (min (max ((g.val * B : ℕ) : ℤ) 0) ((W - B : ℕ) : ℤ)).toNat + j.val = g.val * B + j.val
    omega

/-- The word of a device's group, as @main computes it from the device's row and column. -/
def grpW (c : Dev nD) : Vec Ideal S_ .i32 :=
  addi (muli (constantI S_ 32 2#32) (id (Host.remui (Host.divui (constantI S_ 32 (Dev.word c)) (constantI S_ 32 8#32)) (constantI S_ 32 2#32))))
    (xori (id (Host.remui (Host.divui (constantI S_ 32 (Dev.word c)) (constantI S_ 32 8#32)) (constantI S_ 32 2#32)))
      (id (Host.remui (Host.divui (constantI S_ 32 (Dev.word c)) (constantI S_ 32 4#32)) (constantI S_ 32 2#32))))
/-- Where a slice of width `w` begins among `n` columns. -/
def startW (c : Dev nD) (w n : BitVec 32) : Vec Ideal S_ .i32 :=
  select (cmpi .slt (muli (grpW c) (constantI S_ 32 w)) (constantI S_ 32 0#32)) (addi (muli (grpW c) (constantI S_ 32 w)) (constantI S_ 32 n))
    (muli (grpW c) (constantI S_ 32 w))
theorem start_eq (c : Dev nD) : (startW c 256#32 1024#32 (Shape.Idx.first h_S_)).toInt = ((grp c).val * 256 : ℕ)
    ∧ (startW c 128#32 512#32 (Shape.Idx.first h_S_)).toInt = ((grp c).val * 128 : ℕ) := by revert c; decide +kernel

theorem x_eq : (XX m c).x = m ((c.tc : Thread nD τ).loc main_arg0) := by
  show StableHlo.after (hostOps0 c) (V0 m c) main_v32 = _
  after_reads_simp; rfl
theorem wdkv_eq : (XX m c).wdkv = m ((c.tc : Thread nD τ).loc main_arg1) := by
  show StableHlo.after (hostOps0 c) (V0 m c) main_v33 = _
  after_reads_simp; rfl
theorem wkr_eq : (XX m c).wkr = m ((c.tc : Thread nD τ).loc main_arg6) := by
  show StableHlo.after (hostOps0 c) (V0 m c) main_v38 = _
  after_reads_simp; rfl
theorem wo_eq : (XX m c).wo = m ((c.tc : Thread nD τ).loc main_arg7) := by
  show StableHlo.after (hostOps0 c) (V0 m c) main_v39 = _
  after_reads_simp; rfl

theorem wuk_eq (k : Fin 64) (j : Fin 256) : (XX m c).wuk (ix2 k j) = m ((c.tc : Thread nD τ).loc main_arg2) (ix2 k (gcol (grp c) j)) := by
  show StableHlo.after (hostOps0 c) (V0 m c) main_v34 (ix2 k j) = _
  after_reads_simp
  refine slice_apply (R := 64) (B := 256) (W := 1024) rfl _ _ sliceFits_S64x1024_S64x256 (grp c) ?_ ?_ k j _
  · show (StableHlo.upto (hostOps0 c) (V0 m c) 24 (Proc.tc.devRef main_c_7) (Shape.Idx.first h_S_)).toInt = _
    after_reads_simp; rfl
  · show (StableHlo.upto (hostOps0 c) (V0 m c) 24 (Proc.tc.devRef main_v15) (Shape.Idx.first h_S_)).toInt = _
    after_reads_simp; exact (start_eq c).1
theorem wuv_eq (k : Fin 64) (j : Fin 256) : (XX m c).wuv (ix2 k j) = m ((c.tc : Thread nD τ).loc main_arg3) (ix2 k (gcol (grp c) j)) := by
  show StableHlo.after (hostOps0 c) (V0 m c) main_v35 (ix2 k j) = _
  after_reads_simp
  refine slice_apply (R := 64) (B := 256) (W := 1024) rfl _ _ sliceFits_S64x1024_S64x256 (grp c) ?_ ?_ k j _
  · show (StableHlo.upto (hostOps0 c) (V0 m c) 33 (Proc.tc.devRef main_c_11) (Shape.Idx.first h_S_)).toInt = _
    after_reads_simp; rfl
  · show (StableHlo.upto (hostOps0 c) (V0 m c) 33 (Proc.tc.devRef main_v20) (Shape.Idx.first h_S_)).toInt = _
    after_reads_simp; exact (start_eq c).1
theorem wq_eq (k : Fin 1024) (j : Fin 256) : (XX m c).wq (ix2 k j) = m ((c.tc : Thread nD τ).loc main_arg4) (ix2 k (gcol (grp c) j)) := by
  show StableHlo.after (hostOps0 c) (V0 m c) main_v36 (ix2 k j) = _
  after_reads_simp
  refine slice_apply (R := 1024) (B := 256) (W := 1024) rfl _ _ sliceFits_S1024x1024_S1024x256 (grp c) ?_ ?_ k j _
  · show (StableHlo.upto (hostOps0 c) (V0 m c) 42 (Proc.tc.devRef main_c_15) (Shape.Idx.first h_S_)).toInt = _
    after_reads_simp; rfl
  · show (StableHlo.upto (hostOps0 c) (V0 m c) 42 (Proc.tc.devRef main_v25) (Shape.Idx.first h_S_)).toInt = _
    after_reads_simp; exact (start_eq c).1
theorem wqr_eq (k : Fin 1024) (j : Fin 128) : (XX m c).wqr (ix2 k j) = m ((c.tc : Thread nD τ).loc main_arg5) (ix2 k (grcol (grp c) j)) := by
  show StableHlo.after (hostOps0 c) (V0 m c) main_v37 (ix2 k j) = _
  after_reads_simp
  refine slice_apply (R := 1024) (B := 128) (W := 512) rfl _ _ sliceFits_S1024x512_S1024x128 (grp c) ?_ ?_ k j _
  · show (StableHlo.upto (hostOps0 c) (V0 m c) 51 (Proc.tc.devRef main_c_19) (Shape.Idx.first h_S_)).toInt = _
    after_reads_simp; rfl
  · show (StableHlo.upto (hostOps0 c) (V0 m c) 51 (Proc.tc.devRef main_v30) (Shape.Idx.first h_S_)).toInt = _
    after_reads_simp; exact (start_eq c).2

/-- A device's depth is its third mesh coordinate. -/
theorem depth_eq (c : Dev nD) : Layout.meshLin [2, 2, 4] c.val [2] = (dep c).val := by revert c; decide +kernel

/-- A device's block of an array cut by rows over the depth. -/
theorem rows_apply (x : FVec Ideal ⟨2, ![256, 1024]⟩ .f32) (k : Fin 64) (j : Fin 1024) :
    (Layout.blockN ⟨2, ![64, 1024]⟩ ⟨2, ![256, 1024]⟩ (Layout.meshBlock [2, 2, 4] ![[2], []] c) x) (ix2 k j) = x (ix2 (chunk (dep c) k) j) := by
  refine congrArg x (funext fun a => Fin.ext ?_)
  match a with
  | 0 => show Layout.meshLin [2, 2, 4] c.val [2] * 64 + k.val = (dep c).val * 64 + k.val; rw [depth_eq]
  | 1 => show 0 * 1024 + j.val = j.val; omega

/-- A device's block of an array cut by columns over the depth. -/
theorem cols_apply (x : FVec Ideal ⟨2, ![1024, 256]⟩ .f32) (l : Fin 1024) (k : Fin 64) :
    (Layout.blockN ⟨2, ![1024, 64]⟩ ⟨2, ![1024, 256]⟩ (Layout.meshBlock [2, 2, 4] ![[], [2]] c) x) (ix2 l k) = x (ix2 l (chunk (dep c) k)) := by
  refine congrArg x (funext fun a => Fin.ext ?_)
  match a with
  | 0 => show 0 * 1024 + l.val = l.val; omega
  | 1 => show Layout.meshLin [2, 2, 4] c.val [2] * 64 + k.val = (dep c).val * 64 + k.val; rw [depth_eq]

end Cert.KernelIdeal.P

end
-- ==== Proof.RefValue.lean ====
/- The reference's result, read at an index: the attention layer's plain sums. -/
module

public import proofs.«01_k».proof.Proof.Gen.ReferenceIdeal.Run
public import proofs.«01_k».proof.Proof.Mla

@[expose] public section

set_option maxRecDepth 16384

noncomputable section

namespace Cert.ReferenceIdeal.P

open Idealize.ShloMosaic Idealize.ShloMosaic.TcCoe
open Cert.ReferenceIdeal Cert.ReferenceIdeal.Gen
open Cert

variable (x : FVec Ideal S2x256x1024 .f32) (wdkv : FVec Ideal S1024x256 .f32) (wu : FVec Ideal S256x1024 .f32)
  (wq : FVec Ideal S1024x1024 .f32) (wqr : FVec Ideal S1024x512 .f32) (wkr : FVec Ideal S1024x32 .f32) (wo : FVec Ideal S1024x1024 .f32)

/-- Keys or values, all heads side by side. -/
def upV : FVec Ideal S2x256x1024 .f32 :=
  Host.dotGeneral dot_S2x256x256_S256x1024_S2x256x1024_2_0_01_1_n_n none (Host.dotGeneral dot_S2x256x1024_S1024x256_S2x256x256_2_0_01_1_n_n none x wdkv) wu
/-- The scaled scores. -/
def scoreV : FVec Ideal S2x16x256x256 .f32 :=
  mulf (addf (Host.dotGeneral dot_S2x256x16x64_S2x256x16x64_S2x16x256x256_3_3_1_1_02_02 none
        (shapeCast _ (Host.dotGeneral dot_S2x256x1024_S1024x1024_S2x256x1024_2_0_01_1_n_n none x wq) shapeCasts_S2x256x1024_S2x256x16x64)
        (shapeCast _ (upV x wdkv wu) shapeCasts_S2x256x1024_S2x256x16x64))
      (Host.dotGeneral dot_S2x256x16x32_S2x256x16x32_S2x16x256x256_3_3_1_1_02_02 none
        (shapeCast _ (Host.dotGeneral dot_S2x256x1024_S1024x512_S2x256x512_2_0_01_1_n_n none x wqr) shapeCasts_S2x256x512_S2x256x16x32)
        (broadcastInDim S2x256x16x32 ![0, 1, 2, 3] bcast_S2x256x1x32_S2x256x16x32_0_1_2_3
          (shapeCast _ (Host.dotGeneral dot_S2x256x1024_S1024x32_S2x256x32_2_0_01_1_n_n none x wkr) shapeCasts_S2x256x32_S2x256x1x32))))
    (broadcastInDim S2x16x256x256 ![] bcast_S_S2x16x256x256 (constant S_ .f32 0x3DD105EC#32))

variable (sc : FVec Ideal S2x16x256x256 .f32) (v : FVec Ideal S2x256x1024 .f32)

/-- The exponentials of the scores less their row's maximum. -/
def expV : FVec Ideal S2x16x256x256 .f32 :=
  Host.exp (subf sc (broadcastInDim S2x16x256x256 ![0, 1, 2, 3] bcast_S2x16x256x1_S2x16x256x256_0_1_2_3 (broadcastInDim S2x16x256x1 ![0, 1, 2] bcast_S2x16x256_S2x16x256x1_0_1_2
    (Host.reduce FloatOps.maximumf sc (constant S_ .f32 0xFF800000#32) reducesTo_S2x16x256x256_S2x16x256_d3 h_S_))))
def softV : FVec Ideal S2x16x256x256 .f32 :=
  Host.divf (expV sc) (broadcastInDim S2x16x256x256 ![0, 1, 2, 3] bcast_S2x16x256x1_S2x16x256x256_0_1_2_3 (broadcastInDim S2x16x256x1 ![0, 1, 2] bcast_S2x16x256_S2x16x256x1_0_1_2
    (Host.reduceAdd (expV sc) (constant S_ .f32 0x00000000#32) reducesTo_S2x16x256x256_S2x16x256_d3 h_S_)))
/-- The attention outputs side by side, from the weights and the values. -/
def catV : FVec Ideal S2x256x1024 .f32 :=
  shapeCast _ (transpose S2x256x16x64 [0, 3, 1, 2] (Host.dotGeneral dot_S2x256x16x64_S2x16x256x256_S2x16x64x256_1_3_3_2_02_01 none
    (shapeCast _ v shapeCasts_S2x256x1024_S2x256x16x64) (softV sc)) transposes_S2x16x64x256_S2x256x16x64_0_3_1_2) shapeCasts_S2x256x16x64_S2x256x1024

theorem upV_apply (b : Fin 2) (t : Fin 256) (j : Fin 1024) :
    upV x wdkv wu (ix3 b t j) = ∑ k : Fin 256, (∑ l : Fin 1024, x (ix3 b t l) * wdkv (ix2 l k)) * wu (ix2 k j) := by
  pointwise [upV]

theorem scoreV_apply (b : Fin 2) (h : Fin 16) (s t : Fin 256) :
    scoreV x wdkv wu wq wqr wkr (ix4 b h s t)
      = ((∑ e : Fin 64, (∑ l : Fin 1024, x (ix3 b s l) * wq (ix2 l (Mla.col h e))) * upV x wdkv wu (ix3 b t (Mla.col h e)))
        + ∑ e : Fin 32, (∑ l : Fin 1024, x (ix3 b s l) * wqr (ix2 l (Mla.rcol h e))) * (∑ l : Fin 1024, x (ix3 b t l) * wkr (ix2 l e))) * Mla.scale := by
  pointwise [scoreV, Mla.col, Mla.rcol, Mla.scale]

theorem softV_apply (b : Fin 2) (h : Fin 16) (s t : Fin 256) :
    softV sc (ix4 b h s t) = Mla.soft (fun t' => sc (ix4 b h s t')) t := by
  pointwise [softV, expV, Mla.soft, Mla.top, Mla.bot]

theorem catV_apply (b : Fin 2) (s : Fin 256) (j : Fin 1024) :
    catV sc v (ix3 b s j) = ∑ t : Fin 256, v (ix3 b t j) * softV sc (ix4 b ⟨j.val / 64, by omega⟩ s t) := by
  pointwise [catV]

variable (wuk wuv : FVec Ideal S256x1024 .f32)

/-- Whole arrays read by coordinates. -/
def fullOf : Mla.Full where
  x b s l := x (ix3 b s l)
  wdkv l k := wdkv (ix2 l k)
  wuk k j := wuk (ix2 k j)
  wuv k j := wuv (ix2 k j)
  wq l j := wq (ix2 l j)
  wqr l j := wqr (ix2 l j)
  wkr l j := wkr (ix2 l j)
  wo j n := wo (ix2 j n)

/-- The reference's result from its arrays. -/
def resV : FVec Ideal S2x256x1024 .f32 :=
  Host.dotGeneral dot_S2x256x1024_S1024x1024_S2x256x1024_2_0_01_1_n_n none (catV (scoreV x wdkv wuk wq wqr wkr) (upV x wdkv wuv)) wo

theorem catV_eq (b : Fin 2) (s : Fin 256) (j : Fin 1024) :
    catV (scoreV x wdkv wuk wq wqr wkr) (upV x wdkv wuv) (ix3 b s j) = Mla.cat (fullOf x wdkv wq wqr wkr wo wuk wuv) b s j := by
  have hj : Mla.col ⟨j.val / 64, by omega⟩ ⟨j.val % 64, Nat.mod_lt _ (by decide)⟩ = j := Fin.ext (Nat.div_add_mod' j.val 64)
  rw [catV_apply]
  unfold Mla.cat Mla.att Mla.head
  refine Finset.sum_congr rfl fun t _ => ?_
  rw [softV_apply, mul_comm]
  simp only [hj, scoreV_apply, upV_apply]
  rfl

theorem resV_apply (b : Fin 2) (s : Fin 256) (n : Fin 1024) :
    resV x wdkv wq wqr wkr wo wuk wuv (ix3 b s n) = Mla.out (fullOf x wdkv wq wqr wkr wo wuk wuv) b s n := by
  pointwise [resV]
  exact Finset.sum_congr rfl fun j _ => congrArg (· * _) (catV_eq x wdkv wq wqr wkr wo wuk wuv b s j)

variable (m : (ℓ : Loc nD τ sig) → Buf (Elt Ideal) ℓ) (c : Dev nD)

/-- The whole arrays the reference is handed. -/
def full : Mla.Full :=
  fullOf (m ((c.tc : Thread nD τ).loc main_arg0)) (m ((c.tc : Thread nD τ).loc main_arg1)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg2)) (m ((c.tc : Thread nD τ).loc main_arg3))

/-- The reference's result is the attention layer of the whole arrays. -/
theorem result_apply (b : Fin 2) (s : Fin 256) (n : Fin 1024) : Value.res_main_v29 m c (ix3 b s n) = Mla.out (full m c) b s n :=
  resV_apply (m ((c.tc : Thread nD τ).loc main_arg0)) (m ((c.tc : Thread nD τ).loc main_arg1)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg2)) (m ((c.tc : Thread nD τ).loc main_arg3)) b s n

end Cert.ReferenceIdeal.P

end
-- ==== Proof.Algebraic.lean ====
/- Over the extended reals the kernel's result on every device is the reference's. -/
module

public import proofs.«01_k».proof.Defs
public import proofs.«01_k».proof.Proof.Launch
public import proofs.«01_k».proof.Proof.HostValue
public import proofs.«01_k».proof.Proof.RefValue
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.TcCoe Idealize.SL.Sem
open Cert.KernelIdeal.P (XX Fits)

/-- The kernel's arguments on every device are the reference's, or their block of it. -/
abbrev Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) : Prop :=
  ∀ c : Dev KernelIdeal.nD,
    m (c.tc.loc KernelIdeal.main_arg0) = m' ((0 : Dev ReferenceIdeal.nD).tc.loc ReferenceIdeal.main_arg0)
    ∧ m (c.tc.loc KernelIdeal.main_arg1) = Layout.blockN ⟨2, ![1024, 64]⟩ ⟨2, ![1024, 256]⟩ (Layout.meshBlock [2, 2, 4] ![[], [2]] c)
        (m' ((0 : Dev ReferenceIdeal.nD).tc.loc ReferenceIdeal.main_arg1))
    ∧ m (c.tc.loc KernelIdeal.main_arg2) = Layout.blockN ⟨2, ![64, 1024]⟩ ⟨2, ![256, 1024]⟩ (Layout.meshBlock [2, 2, 4] ![[2], []] c)
        (m' ((0 : Dev ReferenceIdeal.nD).tc.loc ReferenceIdeal.main_arg2))
    ∧ m (c.tc.loc KernelIdeal.main_arg3) = Layout.blockN ⟨2, ![64, 1024]⟩ ⟨2, ![256, 1024]⟩ (Layout.meshBlock [2, 2, 4] ![[2], []] c)
        (m' ((0 : Dev ReferenceIdeal.nD).tc.loc ReferenceIdeal.main_arg3))
    ∧ m (c.tc.loc KernelIdeal.main_arg4) = m' ((0 : Dev ReferenceIdeal.nD).tc.loc ReferenceIdeal.main_arg4)
    ∧ m (c.tc.loc KernelIdeal.main_arg5) = m' ((0 : Dev ReferenceIdeal.nD).tc.loc ReferenceIdeal.main_arg5)
    ∧ m (c.tc.loc KernelIdeal.main_arg6) = m' ((0 : Dev ReferenceIdeal.nD).tc.loc ReferenceIdeal.main_arg6)
    ∧ m (c.tc.loc KernelIdeal.main_arg7) = m' ((0 : Dev ReferenceIdeal.nD).tc.loc ReferenceIdeal.main_arg7)

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ}

/-- Then @main hands every device its blocks of the reference's arrays. -/
theorem fits (H : Agree m m') : Fits (ReferenceIdeal.P.full m' 0) (XX m) where
  x c b s l := by rw [KernelIdeal.P.x_eq, (H c).1]; rfl
  wdkv c l k := by rw [KernelIdeal.P.wdkv_eq, (H c).2.1]; exact KernelIdeal.P.cols_apply c _ l k
  wuk c k j := by rw [KernelIdeal.P.wuk_eq, (H c).2.2.1]; exact KernelIdeal.P.rows_apply c _ k _
  wuv c k j := by rw [KernelIdeal.P.wuv_eq, (H c).2.2.2.1]; exact KernelIdeal.P.rows_apply c _ k _
  wq c l j := by rw [KernelIdeal.P.wq_eq, (H c).2.2.2.2.1]; rfl
  wqr c l j := by rw [KernelIdeal.P.wqr_eq, (H c).2.2.2.2.2.1]; rfl
  wkr c l e := by rw [KernelIdeal.P.wkr_eq, (H c).2.2.2.2.2.2.1]; rfl
  wo c j n := by rw [KernelIdeal.P.wo_eq, (H c).2.2.2.2.2.2.2]; rfl

/-- Every device's result is the reference's. -/
theorem result_eq (H : Agree m m') (c : Dev KernelIdeal.nD) :
    KernelIdeal.P.outC (XX m) c = ReferenceIdeal.Value.res_main_v29 m' 0 := by
  refine funext fun i : KernelIdeal.S2x256x1024.Idx => ?_
  obtain ⟨b, s, n, rfl⟩ : ∃ (b : Fin 2) (s : Fin 256) (n : Fin 1024), i = ix3 b s n := ⟨i 0, i 1, i 2, eq_ix3 i⟩
  exact (KernelIdeal.P.outC_apply (fits H) c b s n).trans (ReferenceIdeal.P.result_apply m' 0 b s n).symm

/-- Over the reals every device's result is the whole reference result, on whatever memories agree on the arguments. -/
theorem algebraic : Cert.algebraic_KernelIdeal_ReferenceIdeal (hKernelIdeal := Cert.KernelIdeal.Gen.facts)
    (hReferenceIdeal := Cert.ReferenceIdeal.Gen.facts) := fun m g m' g' _ H =>
  ⟨ReferenceIdeal.Value.res_main_v29 m' 0,
    (θ_run KernelIdeal.defs _ _).mono (fun _ h c => ⟨(h.1 c).1.trans (result_eq H c), (h.1 c).2⟩) (KernelIdeal.P.run_main (F := Ideal) m g),
    (θ_run ReferenceIdeal.defs _ _).mono (fun _ h => h 0) (ReferenceIdeal.Value.run (F := Ideal) m' g')⟩

end Cert.Proof

end
-- ==== Proof.lean ====
/- The certificate: the three frames and the two statements about what the kernel computes, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  frame_bits, frame_ideal, frame_ref, trivial, algebraic⟩

end Cert.Proof

end
